-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x24x96 : Shape := ⟨4, ![2, 768, 24, 96]⟩
abbrev S2x24 : Shape := ⟨2, ![2, 24]⟩
abbrev S2x768x8x96 : Shape := ⟨4, ![2, 768, 8, 96]⟩
abbrev S2x768x8 : Shape := ⟨3, ![2, 768, 8]⟩
abbrev S2x24x768 : Shape := ⟨3, ![2, 24, 768]⟩
abbrev S2x24x96x768 : Shape := ⟨4, ![2, 24, 96, 768]⟩
abbrev S2x8x3x96x768 : Shape := ⟨5, ![2, 8, 3, 96, 768]⟩
abbrev S2x8x96x768 : Shape := ⟨4, ![2, 8, 96, 768]⟩
abbrev S2x8x768 : Shape := ⟨3, ![2, 8, 768]⟩
abbrev S2x8x1x768 : Shape := ⟨4, ![2, 8, 1, 768]⟩
abbrev S2x8x3x768 : Shape := ⟨4, ![2, 8, 3, 768]⟩
abbrev S1x1x3x96x768 : Shape := ⟨5, ![1, 1, 3, 96, 768]⟩
abbrev S1x1x96x768 : Shape := ⟨4, ![1, 1, 96, 768]⟩
abbrev S1x1x1x768 : Shape := ⟨4, ![1, 1, 1, 768]⟩
abbrev S1x1x3x768 : Shape := ⟨4, ![1, 1, 3, 768]⟩
abbrev S768x128 : Shape := ⟨2, ![768, 128]⟩
abbrev S96x768 : Shape := ⟨2, ![96, 768]⟩
abbrev S3x768x128 : Shape := ⟨3, ![3, 768, 128]⟩
abbrev S3x6x768x128 : Shape := ⟨4, ![3, 6, 768, 128]⟩
abbrev S1x1x96x128 : Shape := ⟨4, ![1, 1, 96, 128]⟩
abbrev S96x128 : Shape := ⟨2, ![96, 128]⟩
abbrev S32x128 : Shape := ⟨2, ![32, 128]⟩
abbrev S128x128 : Shape := ⟨2, ![128, 128]⟩
abbrev S1x768 : Shape := ⟨2, ![1, 768]⟩
abbrev S1x128 : Shape := ⟨2, ![1, 128]⟩
abbrev S1x1 : Shape := ⟨2, ![1, 1]⟩
abbrev S1x768x128 : Shape := ⟨3, ![1, 768, 128]⟩
abbrev S1x1x1x96x256 : Shape := ⟨5, ![1, 1, 1, 96, 256]⟩
abbrev S96x256 : Shape := ⟨2, ![96, 256]⟩
abbrev S32x256 : Shape := ⟨2, ![32, 256]⟩
abbrev S128x256 : Shape := ⟨2, ![128, 256]⟩
abbrev S1x128x128 : Shape := ⟨3, ![1, 128, 128]⟩
abbrev S1x1x128x128 : Shape := ⟨4, ![1, 1, 128, 128]⟩
abbrev S16x8x128 : Shape := ⟨3, ![16, 8, 128]⟩
abbrev S8x128 : Shape := ⟨2, ![8, 128]⟩
abbrev S128 : Shape := ⟨1, ![128]⟩
abbrev S1x1x1x128 : Shape := ⟨4, ![1, 1, 1, 128]⟩
abbrev S256x128 : Shape := ⟨2, ![256, 128]⟩
abbrev S256x256 : Shape := ⟨2, ![256, 256]⟩
abbrev S1x1x1x96x128 : Shape := ⟨5, ![1, 1, 1, 96, 128]⟩
abbrev S384x128 : Shape := ⟨2, ![384, 128]⟩
abbrev S384x256 : Shape := ⟨2, ![384, 256]⟩
abbrev S512x128 : Shape := ⟨2, ![512, 128]⟩
abbrev S512x256 : Shape := ⟨2, ![512, 256]⟩
abbrev S96x512 : Shape := ⟨2, ![96, 512]⟩
abbrev S640x128 : Shape := ⟨2, ![640, 128]⟩
abbrev S640x256 : Shape := ⟨2, ![640, 256]⟩
abbrev S768x256 : Shape := ⟨2, ![768, 256]⟩

abbrev nBuf : Space → Nat
  | .hbm => 28
  | .vmem => 27
  | .smem => 1
  | _ => 0

abbrev bufTy : (tb : Table) → Fin (tcTables nBuf tb) → BufTy
  | .hbm, ⟨0, _⟩ => ⟨S2x768x24x96, .fp8e4m3⟩
  | .hbm, ⟨1, _⟩ => ⟨S2x24, .f32⟩
  | .hbm, ⟨2, _⟩ => ⟨S2x768x8x96, .fp8e4m3⟩
  | .hbm, ⟨3, _⟩ => ⟨S2x768x8, .f32⟩
  | .hbm, ⟨4, _⟩ => ⟨S2x768x8x96, .fp8e4m3⟩
  | .hbm, ⟨5, _⟩ => ⟨S2x768x8, .f32⟩
  | .hbm, ⟨6, _⟩ => ⟨S2x768x24x96, .f32⟩
  | .hbm, ⟨7, _⟩ => ⟨S2x24x768, .f32⟩
  | .hbm, ⟨8, _⟩ => ⟨S2x24x768, .f32⟩
  | .hbm, ⟨9, _⟩ => ⟨S2x24x96x768, .fp8e4m3⟩
  | .hbm, ⟨10, _⟩ => ⟨S2x8x3x96x768, .fp8e4m3⟩
  | .hbm, ⟨11, _⟩ => ⟨S2x8x96x768, .fp8e4m3⟩
  | .hbm, ⟨12, _⟩ => ⟨S2x8x96x768, .fp8e4m3⟩
  | .hbm, ⟨13, _⟩ => ⟨S2x24x96x768, .f32⟩
  | .hbm, ⟨14, _⟩ => ⟨S2x8x3x96x768, .f32⟩
  | .hbm, ⟨15, _⟩ => ⟨S2x8x768, .f32⟩
  | .hbm, ⟨16, _⟩ => ⟨S2x8x1x768, .f32⟩
  | .hbm, ⟨17, _⟩ => ⟨S2x8x768, .f32⟩
  | .hbm, ⟨18, _⟩ => ⟨S2x8x1x768, .f32⟩
  | .hbm, ⟨19, _⟩ => ⟨S2x8x3x768, .f32⟩
  | .hbm, ⟨20, _⟩ => ⟨S2x8x3x768, .f32⟩
  | .hbm, ⟨21, _⟩ => ⟨S2x8x3x96x768, .f32⟩
  | .hbm, ⟨22, _⟩ => ⟨S2x8x3x768, .f32⟩
  | .hbm, ⟨23, _⟩ => ⟨S2x8x3x768, .f32⟩
  | .hbm, ⟨24, _⟩ => ⟨S2x24x96x768, .f32⟩
  | .hbm, ⟨25, _⟩ => ⟨S2x768x24x96, .f32⟩
  | .hbm, ⟨26, _⟩ => ⟨S2x24x768, .f32⟩
  | .hbm, ⟨27, _⟩ => ⟨S2x24x768, .f32⟩
  | .local _ .vmem, ⟨0, _⟩ => ⟨S1x1x3x96x768, .fp8e4m3⟩
  | .local _ .vmem, ⟨1, _⟩ => ⟨S1x1x3x96x768, .fp8e4m3⟩
  | .local _ .vmem, ⟨2, _⟩ => ⟨S1x1x96x768, .fp8e4m3⟩
  | .local _ .vmem, ⟨3, _⟩ => ⟨S1x1x96x768, .fp8e4m3⟩
  | .local _ .vmem, ⟨4, _⟩ => ⟨S1x1x96x768, .fp8e4m3⟩
  | .local _ .vmem, ⟨5, _⟩ => ⟨S1x1x96x768, .fp8e4m3⟩
  | .local _ .vmem, ⟨6, _⟩ => ⟨S1x1x1x768, .f32⟩
  | .local _ .vmem, ⟨7, _⟩ => ⟨S1x1x1x768, .f32⟩
  | .local _ .vmem, ⟨8, _⟩ => ⟨S1x1x1x768, .f32⟩
  | .local _ .vmem, ⟨9, _⟩ => ⟨S1x1x1x768, .f32⟩
  | .local _ .vmem, ⟨10, _⟩ => ⟨S1x1x3x96x768, .f32⟩
  | .local _ .vmem, ⟨11, _⟩ => ⟨S1x1x3x96x768, .f32⟩
  | .local _ .vmem, ⟨12, _⟩ => ⟨S1x1x3x768, .f32⟩
  | .local _ .vmem, ⟨13, _⟩ => ⟨S1x1x3x768, .f32⟩
  | .local _ .vmem, ⟨14, _⟩ => ⟨S1x1x3x768, .f32⟩
  | .local _ .vmem, ⟨15, _⟩ => ⟨S1x1x3x768, .f32⟩
  | .local _ .vmem, ⟨16, _⟩ => ⟨S1x1x3x96x768, .f32⟩
  | .local _ .vmem, ⟨17, _⟩ => ⟨S1x1x3x96x768, .f32⟩
  | .local _ .vmem, ⟨18, _⟩ => ⟨S1x1x3x768, .f32⟩
  | .local _ .vmem, ⟨19, _⟩ => ⟨S1x1x3x768, .f32⟩
  | .local _ .vmem, ⟨20, _⟩ => ⟨S1x1x3x768, .f32⟩
  | .local _ .vmem, ⟨21, _⟩ => ⟨S1x1x3x768, .f32⟩
  | .local _ .vmem, ⟨22, _⟩ => ⟨S768x128, .fp8e4m3⟩
  | .local _ .vmem, ⟨23, _⟩ => ⟨S96x768, .bf16⟩
  | .local _ .vmem, ⟨24, _⟩ => ⟨S3x768x128, .f32⟩
  | .local _ .vmem, ⟨25, _⟩ => ⟨S768x128, .f32⟩
  | .local _ .vmem, ⟨26, _⟩ => ⟨S3x6x768x128, .f32⟩
  | .local _ .smem, ⟨0, _⟩ => ⟨S2x24, .f32⟩
  | _, _ => ⟨S2x768x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def k0_off1 (i : grid0.Coords) (c0_i32 : BitVec 32) : Fin 2 → Nat :=
  let arg0 : BitVec 32 := BitVec.ofNat 32 (i 0).val
  let v98 : Index := Scalar.indexCast arg0
  let arg1 : BitVec 32 := BitVec.ofNat 32 (i 1).val
  let c3_i32 : BitVec 32 := 3#32
  let v96 : BitVec 32 := Scalar.muli arg1 c3_i32
  let v97 : BitVec 32 := Scalar.addi v96 c0_i32
  let v99 : Index := Scalar.indexCast v97
  ![v98.toNat, v99.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x3x96x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x96x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3x96x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x3x96x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x3x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x3x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x768x24x96 : Shape := ⟨4, ![2, 768, 24, 96]⟩
abbrev S2x24 : Shape := ⟨2, ![2, 24]⟩
abbrev S2x768x8x96 : Shape := ⟨4, ![2, 768, 8, 96]⟩
abbrev S2x768x8 : Shape := ⟨3, ![2, 768, 8]⟩
abbrev S2x24x768 : Shape := ⟨3, ![2, 24, 768]⟩
abbrev S2x768x8x3x96 : Shape := ⟨5, ![2, 768, 8, 3, 96]⟩
abbrev S2x8x3x768x96 : Shape := ⟨5, ![2, 8, 3, 768, 96]⟩
abbrev S2x8x768x96 : Shape := ⟨4, ![2, 8, 768, 96]⟩
abbrev S2x8x3 : Shape := ⟨3, ![2, 8, 3]⟩
abbrev S2x8x3x1 : Shape := ⟨4, ![2, 8, 3, 1]⟩
abbrev S2x8x768 : Shape := ⟨3, ![2, 8, 768]⟩
abbrev S2x8x1x768 : Shape := ⟨4, ![2, 8, 1, 768]⟩
abbrev S2x8x3x768 : Shape := ⟨4, ![2, 8, 3, 768]⟩
abbrev S_ : Shape := ⟨0, ![]⟩
abbrev S2x8x3x1x768 : Shape := ⟨5, ![2, 8, 3, 1, 768]⟩
abbrev S2x8x1x1x768 : Shape := ⟨5, ![2, 8, 1, 1, 768]⟩
abbrev S2x8x3x768x768 : Shape := ⟨5, ![2, 8, 3, 768, 768]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S2x8x3x768x1 : Shape := ⟨5, ![2, 8, 3, 768, 1]⟩
abbrev S2x768x8x3 : Shape := ⟨4, ![2, 768, 8, 3]⟩
abbrev S2x768x8x3x1 : Shape := ⟨5, ![2, 768, 8, 3, 1]⟩

abbrev nBuf : Space → Nat
  | .hbm => 84
  | .vmem => 6
  | .smem => 0
  | _ => 0

abbrev bufTy : (tb : Table) → Fin (tcTables nBuf tb) → BufTy
  | .hbm, ⟨0, _⟩ => ⟨S2x768x24x96, .fp8e4m3⟩
  | .hbm, ⟨1, _⟩ => ⟨S2x24, .f32⟩
  | .hbm, ⟨2, _⟩ => ⟨S2x768x8x96, .fp8e4m3⟩
  | .hbm, ⟨3, _⟩ => ⟨S2x768x8, .f32⟩
  | .hbm, ⟨4, _⟩ => ⟨S2x768x8x96, .fp8e4m3⟩
  | .hbm, ⟨5, _⟩ => ⟨S2x768x8, .f32⟩
  | .hbm, ⟨6, _⟩ => ⟨S2x768x24x96, .f32⟩
  | .hbm, ⟨7, _⟩ => ⟨S2x24x768, .f32⟩
  | .hbm, ⟨8, _⟩ => ⟨S2x24x768, .f32⟩
  | .hbm, ⟨9, _⟩ => ⟨S2x768x24x96, .bf16⟩
  | .hbm, ⟨10, _⟩ => ⟨S2x768x8x96, .bf16⟩
  | .hbm, ⟨11, _⟩ => ⟨S2x768x8x96, .bf16⟩
  | .hbm, ⟨12, _⟩ => ⟨S2x768x8x3x96, .bf16⟩
  | .hbm, ⟨13, _⟩ => ⟨S2x8x3x768x96, .bf16⟩
  | .hbm, ⟨14, _⟩ => ⟨S2x8x768x96, .bf16⟩
  | .hbm, ⟨15, _⟩ => ⟨S2x8x768x96, .bf16⟩
  | .hbm, ⟨16, _⟩ => ⟨S2x8x3, .f32⟩
  | .hbm, ⟨17, _⟩ => ⟨S2x8x3x1, .f32⟩
  | .hbm, ⟨18, _⟩ => ⟨S2x8x768, .f32⟩
  | .hbm, ⟨19, _⟩ => ⟨S2x8x1x768, .f32⟩
  | .hbm, ⟨20, _⟩ => ⟨S2x8x3x768, .f32⟩
  | .hbm, ⟨21, _⟩ => ⟨S2x8x3x768, .f32⟩
  | .hbm, ⟨22, _⟩ => ⟨S2x8x3x768, .f32⟩
  | .hbm, ⟨23, _⟩ => ⟨S_, .f32⟩
  | .hbm, ⟨24, _⟩ => ⟨S2x8x3x768, .f32⟩
  | .hbm, ⟨25, _⟩ => ⟨S2x8x3x768, .f32⟩
  | .hbm, ⟨26, _⟩ => ⟨S2x8x3x1x768, .f32⟩
  | .hbm, ⟨27, _⟩ => ⟨S2x8x768, .f32⟩
  | .hbm, ⟨28, _⟩ => ⟨S2x8x1x1x768, .f32⟩
  | .hbm, ⟨29, _⟩ => ⟨S2x8x3x768, .f32⟩
  | .hbm, ⟨30, _⟩ => ⟨S2x8x3x768, .f32⟩
  | .hbm, ⟨31, _⟩ => ⟨S2x8x3x768x768, .f32⟩
  | .hbm, ⟨32, _⟩ => ⟨S768, .i32⟩
  | .hbm, ⟨33, _⟩ => ⟨S_, .i32⟩
  | .hbm, ⟨34, _⟩ => ⟨S768, .i32⟩
  | .hbm, ⟨35, _⟩ => ⟨S768, .i32⟩
  | .hbm, ⟨36, _⟩ => ⟨S_, .i32⟩
  | .hbm, ⟨37, _⟩ => ⟨S768, .i32⟩
  | .hbm, ⟨38, _⟩ => ⟨S768, .i32⟩
  | .hbm, ⟨39, _⟩ => ⟨S768, .i32⟩
  | .hbm, ⟨40, _⟩ => ⟨S_, .i32⟩
  | .hbm, ⟨41, _⟩ => ⟨S768, .i32⟩
  | .hbm, ⟨42, _⟩ => ⟨S768, .i32⟩
  | .hbm, ⟨43, _⟩ => ⟨S_, .i32⟩
  | .hbm, ⟨44, _⟩ => ⟨S768, .i32⟩
  | .hbm, ⟨45, _⟩ => ⟨S768, .i32⟩
  | .hbm, ⟨46, _⟩ => ⟨S768x1, .i32⟩
  | .hbm, ⟨47, _⟩ => ⟨S1x768, .i32⟩
  | .hbm, ⟨48, _⟩ => ⟨S768x768, .i32⟩
  | .hbm, ⟨49, _⟩ => ⟨S768x768, .i32⟩
  | .hbm, ⟨50, _⟩ => ⟨S768x768, .i1⟩
  | .hbm, ⟨51, _⟩ => ⟨S2x8x3x768x768, .f32⟩
  | .hbm, ⟨52, _⟩ => ⟨S2x8x3x768x768, .f32⟩
  | .hbm, ⟨53, _⟩ => ⟨S_, .f32⟩
  | .hbm, ⟨54, _⟩ => ⟨S2x8x3x768x768, .i1⟩
  | .hbm, ⟨55, _⟩ => ⟨S2x8x3x768x768, .f32⟩
  | .hbm, ⟨56, _⟩ => ⟨S2x8x3x768x768, .f32⟩
  | .hbm, ⟨57, _⟩ => ⟨S_, .f32⟩
  | .hbm, ⟨58, _⟩ => ⟨S2x8x3x768, .f32⟩
  | .hbm, ⟨59, _⟩ => ⟨S2x8x3x768, .f32⟩
  | .hbm, ⟨60, _⟩ => ⟨S2x8x3x768, .f32⟩
  | .hbm, ⟨61, _⟩ => ⟨S2x8x3x768, .f32⟩
  | .hbm, ⟨62, _⟩ => ⟨S2x8x3x768x1, .f32⟩
  | .hbm, ⟨63, _⟩ => ⟨S2x8x3x768x768, .f32⟩
  | .hbm, ⟨64, _⟩ => ⟨S2x8x3x768x768, .f32⟩
  | .hbm, ⟨65, _⟩ => ⟨S2x8x3x768x768, .f32⟩
  | .hbm, ⟨66, _⟩ => ⟨S2x8x3x768, .f32⟩
  | .hbm, ⟨67, _⟩ => ⟨S_, .f32⟩
  | .hbm, ⟨68, _⟩ => ⟨S2x8x3x768, .f32⟩
  | .hbm, ⟨69, _⟩ => ⟨S2x8x3x768, .f32⟩
  | .hbm, ⟨70, _⟩ => ⟨S2x8x3x768x768, .f32⟩
  | .hbm, ⟨71, _⟩ => ⟨S2x8x3x768x768, .f32⟩
  | .hbm, ⟨72, _⟩ => ⟨S2x8x3x768x768, .bf16⟩
  | .hbm, ⟨73, _⟩ => ⟨S2x8x3x768x96, .f32⟩
  | .hbm, ⟨74, _⟩ => ⟨S2x768x8x3, .f32⟩
  | .hbm, ⟨75, _⟩ => ⟨S2x768x8x3x1, .f32⟩
  | .hbm, ⟨76, _⟩ => ⟨S2x768x8x3x96, .f32⟩
  | .hbm, ⟨77, _⟩ => ⟨S2x768x8x3x96, .f32⟩
  | .hbm, ⟨78, _⟩ => ⟨S2x768x8x3x96, .f32⟩
  | .hbm, ⟨79, _⟩ => ⟨S2x768x8x3x96, .f32⟩
  | .hbm, ⟨80, _⟩ => ⟨S2x768x8x3x96, .f32⟩
  | .hbm, ⟨81, _⟩ => ⟨S2x768x24x96, .f32⟩
  | .hbm, ⟨82, _⟩ => ⟨S2x24x768, .f32⟩
  | .hbm, ⟨83, _⟩ => ⟨S2x24x768, .f32⟩
  | .local _ .vmem, ⟨0, _⟩ => ⟨S2x768x24x96, .fp8e4m3⟩
  | .local _ .vmem, ⟨1, _⟩ => ⟨S2x768x8x96, .fp8e4m3⟩
  | .local _ .vmem, ⟨2, _⟩ => ⟨S2x768x8x96, .fp8e4m3⟩
  | .local _ .vmem, ⟨3, _⟩ => ⟨S2x768x24x96, .bf16⟩
  | .local _ .vmem, ⟨4, _⟩ => ⟨S2x768x8x96, .bf16⟩
  | .local _ .vmem, ⟨5, _⟩ => ⟨S2x768x8x96, .bf16⟩
  | _, _ => ⟨S2x768x24x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x24x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x8x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x24x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x8x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x8x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scalar.lean ====
/-
  Extended-real facts the equation rests on: the two base-2 exponentials scaled by `1 / log 2` are the
  natural exponential, the scale goes through a maximum, and a masked score adds nothing.
-/
module

public import Idealize.ShloMosaic.PureOps.Ideal

@[expose] public section

noncomputable section

namespace Cert.Ring

open Idealize.ShloMosaic

/-- `log₂ e`, as an extended real. -/
def L2E : EReal := (((Real.log 2)⁻¹ : ℝ) : EReal)
/-- `log 2`, as an extended real. -/
def LN2 : EReal := ((Real.log 2 : ℝ) : EReal)

theorem log2_pos : (0 : ℝ) < Real.log 2 := Real.log_pos (by norm_num)

theorem L2E_mul_LN2 : L2E * LN2 = 1 := by
  unfold L2E LN2
  rw [← EReal.coe_mul, inv_mul_cancel₀ log2_pos.ne']; rfl

theorem mul_L2E_mul_LN2 (x : EReal) : x * L2E * LN2 = x := by
  rw [mul_assoc, L2E_mul_LN2, mul_one]

theorem L2E_nonneg : 0 ≤ L2E := EReal.coe_nonneg.mpr (inv_pos.mpr log2_pos).le

theorem bot_mul_L2E : ⊥ * L2E = ⊥ := EReal.bot_mul_coe_of_pos (inv_pos.mpr log2_pos)
theorem top_mul_L2E : ⊤ * L2E = ⊤ := EReal.top_mul_coe_of_pos (inv_pos.mpr log2_pos)

/-- Scaling by `log₂ e` keeps the order. -/
theorem max_mul_L2E (x y : EReal) : max (x * L2E) (y * L2E) = max x y * L2E :=
  (Monotone.map_max (f := fun x : EReal => x * L2E) fun _ _ h => mul_le_mul_of_nonneg_right h L2E_nonneg).symm

/-- Scaling by `log 2` takes the maximum of the scaled values back. -/
theorem max_scaled_LN2 (x y : EReal) : max x (y * L2E * LN2) = max x y := by rw [mul_L2E_mul_LN2]

/-- `2 ^ (x log₂ e − y log₂ e) = e ^ (x − y)`. -/
theorem exp2_sub (x y : EReal) : Ideal.exp2 (x * L2E - y * L2E) = Ideal.exp (x - y) := by
  induction x with
  | bot => rw [bot_mul_L2E, EReal.bot_sub, EReal.bot_sub]; rfl
  | top =>
    rw [top_mul_L2E]
    induction y with
    | bot => rw [bot_mul_L2E]; rfl
    | top => rw [top_mul_L2E]; rfl
    | coe y => unfold L2E; rw [← EReal.coe_mul]; rfl
  | coe x =>
    induction y with
    | bot => rw [bot_mul_L2E]; unfold L2E; rw [← EReal.coe_mul]; rfl
    | top => rw [top_mul_L2E]; unfold L2E; rw [← EReal.coe_mul]; rfl
    | coe y =>
      unfold L2E
      rw [← EReal.coe_mul, ← EReal.coe_mul, ← EReal.coe_sub, ← EReal.coe_sub, Ideal.exp2_coe, Ideal.exp_coe, ← sub_mul]
      congr 1
      show (2 : ℝ) ^ ((x - y) * (Real.log 2)⁻¹) = _
      rw [Real.rpow_def_of_pos (by norm_num), mul_comm (x - y), ← mul_assoc, mul_inv_cancel₀ log2_pos.ne', one_mul]

/-- The exponential of a masked score is zero, whatever is subtracted. -/
theorem exp_bot_sub (y : EReal) : Ideal.exp (⊥ - y) = 0 := by rw [EReal.bot_sub]; rfl

end Cert.Ring
-- ==== Proof.Block.lean ====
/-
  What one grid cell computes, in plain functions of its input blocks: the scores scaled by `log₂ e` (`score`), the
  same with the causal mask (`masked`), and what the kernel keeps in its scratch arrays.
-/
module

public import proofs.«01_k».proof.Proof.Scalar
public import proofs.«01_k».proof.Proof.Gen.KernelIdeal.Frame.RunA
public import Idealize.ShloMosaic.Lib.Pointwise

@[expose] public section

set_option maxRecDepth 16384

noncomputable section

namespace Cert.Ring

open Idealize.ShloMosaic Idealize.ShloMosaic.Pointwise
open Cert.KernelIdeal Cert.KernelIdeal.Gen

/-- A list of stores whose payloads all agree with one function `G` of the buffer's index, read through a box the
    stores cover, reads `G` there. -/
theorem readCov_of_pieces {sig : RefSig} {κ : Kind} {sp : Space} {S : Shape} {e : EltTy} (v : View sig κ sp S e)
    (G : S.Idx → Elt Ideal e) (L : List (View.Piece (Elt Ideal) S e)) (hL : ∀ p ∈ L, ∀ y, p.2 y = View.ld (Val := Elt Ideal) G p.1 y)
    (B : Rect S) (hB : ∀ j : B.shape.Idx, ∃ p ∈ L, B.idx j ∈ p.1.set) :
    v.readCov L B.toLoadRect = View.ld (Val := Elt Ideal) G B := by
  rw [View.readCov_eq_canon']
  funext j
  exact View.canon_apply_of_pieces G L hL _ (hB j)

/-- A row of six groups of 128 columns, read group by group. -/
theorem six_groups (f : Fin 768 → EReal) (y : Fin 768) :
    (if _ : y.val < 128 then f y
      else if _ : y.val - 128 < 128 then f ⟨128 + (y.val - 128), by omega⟩
      else if _ : y.val - 128 - 128 < 128 then f ⟨256 + (y.val - 128 - 128), by omega⟩
      else if _ : y.val - 128 - 128 - 128 < 128 then f ⟨384 + (y.val - 128 - 128 - 128), by omega⟩
      else if _ : y.val - 128 - 128 - 128 - 128 < 128 then f ⟨512 + (y.val - 128 - 128 - 128 - 128), by omega⟩
      else f ⟨640 + (y.val - 128 - 128 - 128 - 128 - 128), by omega⟩) = f y := by
  split_ifs <;> first | rfl | (congr 1; apply Fin.ext; simp only; omega)

/-- The key block with its channels padded by zeros, transposed: what the kernel multiplies the queries with. -/
def keysT (x2 : Vec Ideal S1x1x96x768 .fp8e4m3) : S768x128.Idx → EReal :=
  fun j => if h : (j 1).val < 96 then x2 (ix4 (0 : Fin 1) (0 : Fin 1) (⟨(j 1).val, h⟩ : Fin 96) (j 0 : Fin 768)) else 0

/-- The values. -/
def vals (x3 : Vec Ideal S1x1x96x768 .fp8e4m3) : S96x768.Idx → EReal :=
  fun j => x3 (ix4 (0 : Fin 1) (0 : Fin 1) (j 0 : Fin 96) (j 1 : Fin 768))

/-- The value scales, one key per row, the same in every column. -/
def vscale (x5 : Vec Ideal S1x1x1x768 .f32) : S768x128.Idx → EReal :=
  fun j => x5 (ix4 (0 : Fin 1) (0 : Fin 1) (0 : Fin 1) (j 0 : Fin 768))

/-- Query head `r` of KV head `g`. -/
def headIx (g : Fin 8) (r : Fin 3) : Fin 24 := ⟨3 * g.val + r.val, by omega⟩

/-- Position `x` of chunk `c`. -/
def posIx (c : Fin 6) (x : Fin 128) : Fin 768 := ⟨128 * c.val + x.val, by omega⟩

/-- The scale of a score of head `r` against key `j`: the query's scale times the key's times the score scale. -/
def factor (i : grid0.Coords) (x0 : Vec Ideal S2x24 .f32) (x4 : Vec Ideal S1x1x1x768 .f32) (r : Fin 3) (j : Fin 768) : EReal :=
  x0 (ix2 (i 0 : Fin 2) (headIx (i 1) r)) * x4 (ix4 (0 : Fin 1) (0 : Fin 1) (0 : Fin 1) j)
    * FloatOps.ofBits (F := Ideal) .f32 0x3DD105EC#32

/-- The scales times `log₂ e`, one key per row, the same in every column. -/
def scaleF (i : grid0.Coords) (x0 : Vec Ideal S2x24 .f32) (x4 : Vec Ideal S1x1x1x768 .f32) : S3x768x128.Idx → EReal :=
  fun j => factor i x0 x4 (j 0) (j 1) * L2E

/-- The product of key `j`'s codes and those of query `q` of head `r`. -/
def dotKQ (x1 : Vec Ideal S1x1x3x96x768 .fp8e4m3) (x2 : Vec Ideal S1x1x96x768 .fp8e4m3) (r : Fin 3) (q j : Fin 768) : EReal :=
  ∑ d : Fin 96, x2 (ix4 (0 : Fin 1) (0 : Fin 1) d j) * x1 (ix5 (0 : Fin 1) (0 : Fin 1) r d q)

end Cert.Ring
end
-- ==== Proof.Contents.lean ====
/-
  What the kernel's scratch arrays hold: the transposed keys, the score scales, the value scales and the values. Each
  lemma reads the stores of one array; every later load of the array then reads the named function.
-/
module

public import proofs.«01_k».proof.Proof.Block

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (c : Dev nD) (i : grid0.Coords) (arg2 : Memref sig .tc .smem S2x24 .f32) (harg2 : arg2.IsWhole)
  (arg4 : Memref sig .tc .vmem S1x1x96x768 .fp8e4m3) (harg4 : arg4.IsWhole)
  (arg5 : Memref sig .tc .vmem S1x1x96x768 .fp8e4m3) (harg5 : arg5.IsWhole)
  (arg6 : Memref sig .tc .vmem S1x1x1x768 .f32) (harg6 : arg6.IsWhole)
  (arg7 : Memref sig .tc .vmem S1x1x1x768 .f32) (harg7 : arg7.IsWhole)
  (x0 : Vec Ideal S2x24 .f32) (x2 : Vec Ideal S1x1x96x768 .fp8e4m3)
  (x3 : Vec Ideal S1x1x96x768 .fp8e4m3) (x4 : Vec Ideal S1x1x1x768 .f32) (x5 : Vec Ideal S1x1x1x768 .f32)

/-- The stores of the key scratch array. -/
theorem keys_pieces : ∀ p ∈ HS0_6 (F := Ideal) c arg4 harg4 x2, ∀ y, p.2 y = View.ld (Val := Elt Ideal) (keysT x2) p.1 y := by
  unfold HS0_6
  simp only [List.forall_mem_cons, List.not_mem_nil, false_imp_iff, implies_true, and_true]
  refine ⟨?_, ?_, ?_, ?_, ?_, ?_⟩ <;> intro y <;>
    simp only [v59, v56, v55, v54, v3, cst, v52, v51, v9, v6, v5, v4, v2, v1, v19, v16, v15, v14, v12, v11, v29, v26, v25,
      v24, v22, v21, v39, v36, v35, v34, v32, v31, v49, v46, v45, v44, v42, v41, View.readAt_eq_ld] <;>
    pointwise [keysT, harg4.read_unread (Val := Elt Ideal) x2]

/-- The store of the value-scale scratch array. -/
theorem vscale_pieces : ∀ p ∈ HS3_1 (F := Ideal) c arg7 harg7 x5, ∀ y, p.2 y = View.ld (Val := Elt Ideal) (vscale x5) p.1 y := by
  unfold HS3_1
  simp only [List.forall_mem_cons, List.not_mem_nil, false_imp_iff, implies_true, and_true]
  intro y
  simp only [View.readAt_eq_ld]
  pointwise [vscale, k0_pay10, harg7.read_unread (Val := Elt Ideal) x5]
  exact six_groups (fun j => x5 (ix4 (0 : Fin 1) (0 : Fin 1) (0 : Fin 1) j)) (y 0)

/-- The store of the value scratch array. -/
theorem vals_pieces : ∀ p ∈ HS1_1 (F := Ideal) c arg5 harg5 x3, ∀ y, p.2 y = View.ld (Val := Elt Ideal) (vals x3) p.1 y := by
  unfold HS1_1
  simp only [List.forall_mem_cons, List.not_mem_nil, false_imp_iff, implies_true, and_true]
  intro y
  simp only [v62, v61, View.readAt_eq_ld]
  pointwise [vals, k0_pay9, harg5.read_unread (Val := Elt Ideal) x3]

/-- A head's scales, as the kernel spreads them over rows. -/
theorem spread0 (a b : FVec Ideal S1x768 .f32) (y : S1x768x128.Idx) :
    k0_pay13 a b y = a (ix2 (0 : Fin 1) (y 1 : Fin 768)) * b (ix2 (0 : Fin 1) (y 1 : Fin 768)) := by
  pointwise [k0_pay13]
  exact six_groups (fun j => a (ix2 (0 : Fin 1) j) * b (ix2 (0 : Fin 1) j)) (y 1)

theorem spread1 (q : EReal) (k : Vec Ideal S1x1x1x768 .f32) (y : S1x768x128.Idx) :
    k0_pay17 (k0_pay14 q k) (k0_pay15 q k) (k0_pay16 q k) y = k0_pay14 q k (ix2 (0 : Fin 1) (y 1 : Fin 768)) := by
  pointwise [k0_pay17, k0_pay16, k0_pay15]
  exact six_groups (fun j => k0_pay14 q k (ix2 (0 : Fin 1) j)) (y 1)

theorem spread2 (y : S1x768x128.Idx) : v218 (F := Ideal) c i arg2 harg2 arg6 harg6 x0 x4 y
    = k0_pay18 (r_7 (F := Ideal) c i arg2 harg2 x0) (arg6.view.readAt (Elt Ideal) (Rect.unit ![0, 0, 0, 0] S1x1x1x768.size
        inb_S1x1x1x768_S1x1x1x768_0_0_0_0).toLoadRect (harg6.unread x4)) (ix2 (0 : Fin 1) (y 1 : Fin 768)) := by
  simp only [v218, v215, v214, v213, v212, v211, r_8, v210, v209, v208, v207, v206, v205, v204, r_12, r_11, r_10, r_9]
  generalize r_7 (F := Ideal) c i arg2 harg2 x0 = q
  generalize arg6.view.readAt (Elt Ideal) (Rect.unit ![0, 0, 0, 0] S1x1x1x768.size
    inb_S1x1x1x768_S1x1x1x768_0_0_0_0).toLoadRect (harg6.unread x4) = k
  pointwise [k0_pay19, k0_pay20, k0_pay21, k0_pay22]
  exact six_groups (fun j => k0_pay18 q k (ix2 (0 : Fin 1) j)) (y 1)

/-- `log₂ e`, the value the certificate gives the kernel's constant. -/
theorem named_log2e : (Named.named (F := Ideal) (φ := .f32) κ "log2e" 0x3FB8AA3B#32 : EReal) = L2E :=
  IdealRules.named_const.ideal_named_scalar _ _ _ _ rfl

/-- The scales of one head: the query's, the keys', the score's and `log₂ e`. -/
theorem scale_apply (q : EReal) (k : Vec Ideal S1x1x1x768 .f32) (j : S1x768.Idx) : k0_pay14 q k j
    = q * k (ix4 (0 : Fin 1) (0 : Fin 1) (0 : Fin 1) (j 1 : Fin 768)) * FloatOps.ofBits (F := Ideal) .f32 0x3DD105EC#32 * L2E := by
  pointwise [k0_pay14, named_log2e]

/-- The query scale the kernel reads for its head `r`. -/
theorem qscale_read (r : Fin 3) (h) (h') : View.readAt (Elt Ideal) arg2.view
    (Rect.unit (s := S2x24) (k0_off1 i (BitVec.ofNat 32 r.val)) S1x1.size h).toLoadRect (harg2.unread x0) (Shape.Idx.first h')
      = x0 (ix2 (i 0 : Fin 2) (headIx (i 1) r)) := by
  rw [View.readAt_eq_ld, harg2.read_unread (Val := Elt Ideal) x0]
  refine congrArg x0 (funext fun k => Fin.ext ?_)
  have e := congrFun (k0_off1_eq i r) k
  fin_cases k
  · exact e
  · exact e

/-- The stores of the score-scale scratch array. -/
theorem scale_pieces : ∀ p ∈ HS2_3 (F := Ideal) c i arg2 harg2 arg6 harg6 x0 x4, ∀ y,
    p.2 y = View.ld (Val := Elt Ideal) (scaleF i x0 x4) p.1 y := by
  have q0 : r_1 (F := Ideal) c i arg2 harg2 x0 = x0 (ix2 (i 0 : Fin 2) (headIx (i 1) 0)) := qscale_read i arg2 harg2 x0 0 _ _
  have q1 : r_3 (F := Ideal) c i arg2 harg2 x0 = x0 (ix2 (i 0 : Fin 2) (headIx (i 1) 1)) := qscale_read i arg2 harg2 x0 1 _ _
  have q2 : r_7 (F := Ideal) c i arg2 harg2 x0 = x0 (ix2 (i 0 : Fin 2) (headIx (i 1) 2)) := qscale_read i arg2 harg2 x0 2 _ _
  unfold HS2_3
  simp only [List.forall_mem_cons, List.not_mem_nil, false_imp_iff, implies_true, and_true]
  refine ⟨?_, ?_, ?_⟩ <;> intro y
  · rw [spread2, q2]
    refine (scale_apply _ _ _).trans ?_
    pointwise [scaleF, factor, View.readAt_eq_ld, harg6.read_unread (Val := Elt Ideal) x4]
  · simp only [r_4, r_5, r_6, q1]
    refine (spread1 _ _ _).trans ((scale_apply _ _ _).trans ?_)
    pointwise [scaleF, factor, View.readAt_eq_ld, harg6.read_unread (Val := Elt Ideal) x4]
  · rw [spread0]
    simp only [r_2, q0]
    pointwise [k0_pay11, k0_pay12, scaleF, factor, View.readAt_eq_ld, harg6.read_unread (Val := Elt Ideal) x4, named_log2e]
end Cert.Ring
end
-- ==== Proof.Norm.lean ====
/-
  Arrays as functions of positions. A block of the scores is written `blk f a b`: entry `(y, x)` is `f (a + y) (b + x)`,
  with `f` a function of the key's and the query's position. The lemmas say what each operation of the kernel does to
  such blocks, so a chunk's whole computation is rewritten to one formula in the positions.
-/
module

public import proofs.«01_k».proof.Proof.Block

@[expose] public section

set_option maxRecDepth 16384

noncomputable section

namespace Cert.Ring

open Idealize.ShloMosaic Idealize.ShloMosaic.Pointwise
open Cert.KernelIdeal Cert.KernelIdeal.Gen

/-- The block of `f` whose first row is `a` and first column `b`. -/
def blk {n m : Nat} {φ : FTy} (f : Nat → Nat → EReal) (a b : Nat) : FVec Ideal ⟨2, ![n, m]⟩ φ :=
  fun y => f (a + (y 0).val) (b + (y 1).val)

/-- The row of `g` whose first column is `b`. -/
def row {m : Nat} {φ : FTy} (g : Nat → EReal) (b : Nat) : FVec Ideal ⟨2, ![1, m]⟩ φ := fun y => g (b + (y 1).val)

variable {n m n' m' : Nat} {φ : FTy} (f f' : Nat → Nat → EReal) (g g' : Nat → EReal) (a b o p : Nat)

theorem blk_apply (y : (⟨2, ![n, m]⟩ : Shape).Idx) : blk (φ := φ) f a b y = f (a + (y 0).val) (b + (y 1).val) := rfl
theorem row_apply (y : (⟨2, ![1, m]⟩ : Shape).Idx) : row (φ := φ) g b y = g (b + (y 1).val) := rfl

theorem slice_blk (h) : extractStridedSlice ⟨2, ![n', m']⟩ ![o, p] (blk (n := n) (m := m) (φ := φ) f a b) h
    = blk f (a + o) (b + p) := by
  funext y
  simp only [blk_apply, Nat.add_assoc]
  rfl

theorem mulf_blk : mulf (blk (n := n) (m := m) (φ := φ) f a b) (blk f' a b) = blk (fun j q => f j q * f' j q) a b := rfl
theorem addf_blk : addf (blk (n := n) (m := m) (φ := φ) f a b) (blk f' a b) = blk (fun j q => f j q + f' j q) a b := rfl
theorem exp2_blk : exp2 (blk (n := n) (m := m) (φ := φ) f a b) = blk (fun j q => Ideal.exp2 (f j q)) a b := rfl
theorem subf_row (h) : subf (blk (n := 128) (m := 128) (φ := φ) f a b) (broadcastTo S128x128 (row (m := 128) g b) h)
    = blk (fun j q => f j q - g q) a b := by
  funext y
  pointwise [blk_apply, row_apply]
theorem truncf_blk {ψ : FTy} (h) : truncf ψ (blk (n := n) (m := m) (φ := φ) f a b) h = blk f a b := rfl
theorem mulf_row : mulf (row (m := m) (φ := φ) g b) (row g' b) = row (fun q => g q * g' q) b := rfl
theorem addf_row : addf (row (m := m) (φ := φ) g b) (row g' b) = row (fun q => g q + g' q) b := rfl
theorem maximumf_row : maximumf (row (m := m) (φ := φ) g b) (row g' b) = row (fun q => max (g q) (g' q)) b := rfl
theorem subf_rows : subf (row (m := m) (φ := φ) g b) (row g' b) = row (fun q => g q - g' q) b := rfl
theorem exp2_row : exp2 (row (m := m) (φ := φ) g b) = row (fun q => Ideal.exp2 (g q)) b := rfl
theorem mulf_row_const (x : EReal) : mulf (row (m := m) (φ := φ) g b) (broadcast ⟨2, ![1, m]⟩ x) = row (fun q => g q * x) b := rfl
theorem mulf_row_blk (h) : mulf (broadcastTo S96x128 (row (m := 128) (φ := φ) g b) h) (blk f a b)
    = blk (fun d q => g q * f d q) a b := by
  funext y
  pointwise [blk_apply, row_apply]

/-- The maxima over the rows `s ≤ j < t` that leave each remainder mod 8. -/
def octSup (f : Nat → Nat → EReal) (s t b : Nat) : FVec Ideal S8x128 φ :=
  fun y => ((Finset.Ico s t).filter (· % 8 = (y 0).val)).sup (fun j => f j (b + (y 1).val))

/-- The sums over the rows `s ≤ j < t` that leave each remainder mod 8. -/
def octSum (f : Nat → Nat → EReal) (s t b : Nat) : FVec Ideal S8x128 φ :=
  fun y => ∑ j ∈ (Finset.Ico s t).filter (· % 8 = (y 0).val), f j (b + (y 1).val)

/-- The `k`-th row of a group of 128 that leaves the remainder `y` mod 8. -/
def octEmb (a : Nat) (y : Fin 8) : Fin 16 ↪ Nat where
  toFun k := a + (k.val * 8 + y.val)
  inj' u v h := by
    apply Fin.ext
    have e : a + (u.val * 8 + y.val) = a + (v.val * 8 + y.val) := h
    omega

/-- The rows of a group of 128 that leave a remainder mod 8. -/
theorem oct_image (ha : a % 8 = 0) (y : Fin 8) : (Finset.Ico a (a + 128)).filter (· % 8 = y.val)
    = Finset.univ.map (octEmb a y) := by
  ext j
  simp only [Finset.mem_filter, Finset.mem_Ico, Finset.mem_map, Finset.mem_univ, true_and]
  constructor
  · intro h
    refine ⟨⟨(j - a) / 8, by omega⟩, ?_⟩
    show a + ((j - a) / 8 * 8 + y.val) = j
    omega
  · rintro ⟨k, rfl⟩
    show (a ≤ a + (k.val * 8 + y.val) ∧ a + (k.val * 8 + y.val) < a + 128) ∧ (a + (k.val * 8 + y.val)) % 8 = y.val
    omega

/-- The kernel's maxima start from `-∞`. -/
theorem ofBits_neg_inf : Ideal.ofBits .f32 4286578688#32 = ⊥ := by simp [Ideal.ofBits, Ideal.ieee]

theorem octSup_blk (ha : a % 8 = 0) (axes : List (Fin S16x8x128.rank)) (hx : axes = [0]) (h) (h' : FTy.f32 = FTy.f32 ∨ FTy.f32 = FTy.bf16) (h'' : (4286578688#32 : BitVec 32) = 4286578688#32) (hc) : multiReduction .maximumf axes S8x128
    (shapeCast S16x8x128 (blk (n := 128) (m := 128) (φ := .f32) f a b) hc) 4286578688#32 h h' h'' = octSup f a (a + 128) b := by
  subst hx
  funext y
  unfold octSup
  rw [oct_image a ha (y 0), Finset.sup_map]
  pointwise [blk_apply, ofBits_neg_inf]
  rfl

theorem octSum_blk (ha : a % 8 = 0) (axes : List (Fin S16x8x128.rank)) (hx : axes = [0]) (h) (h' : FTy.f32 = FTy.f32 ∨ FTy.f32 = FTy.bf16) (h'' : (0#32 : BitVec 32) = 0#32) (hc) : multiReduction .add axes S8x128
    (shapeCast S16x8x128 (blk (n := 128) (m := 128) (φ := .f32) f a b) hc) 0#32 h h' h'' = octSum f a (a + 128) b := by
  subst hx
  funext y
  unfold octSum
  rw [oct_image a ha (y 0), Finset.sum_map]
  pointwise [blk_apply]
  rfl

theorem octSup_step (s t u : Nat) (h : s ≤ t) (h' : t ≤ u) :
    maximumf (octSup (φ := φ) f s t b) (octSup f t u b) = octSup f s u b := by
  funext y
  show max (Finset.sup _ _) (Finset.sup _ _) = Finset.sup _ _
  rw [← Finset.sup_union, ← Finset.filter_union, Finset.Ico_union_Ico_eq_Ico h h']

theorem octSum_step (s t u : Nat) (h : s ≤ t) (h' : t ≤ u) :
    addf (octSum (φ := φ) f s t b) (octSum f t u b) = octSum f s u b := by
  funext y
  show (Finset.sum _ _ + Finset.sum _ _ : EReal) = Finset.sum _ _
  rw [← Finset.sum_union, ← Finset.filter_union, Finset.Ico_union_Ico_eq_Ico h h']
  exact Finset.disjoint_filter_filter (Finset.Ico_disjoint_Ico_consecutive s t u)

/-- The maximum over all rows below `t`. -/
theorem row_octSup (t : Nat) (axes : List (Fin S8x128.rank)) (hx : axes = [0]) (h) (h' : FTy.f32 = FTy.f32 ∨ FTy.f32 = FTy.bf16) (h'' : (4286578688#32 : BitVec 32) = 4286578688#32) (hc) : shapeCast S1x128 (multiReduction .maximumf axes S128
    (octSup (φ := .f32) f 0 t b) 4286578688#32 h h' h'') hc = row (fun q => (Finset.range t).sup fun j => f j q) b := by
  subst hx
  funext y
  pointwise [row_apply, octSup, ofBits_neg_inf]
  show (Finset.univ : Finset (Fin 8)).sup _ = _
  apply le_antisymm
  · refine Finset.sup_le fun k _ => Finset.sup_le fun j hj => ?_
    rw [Finset.mem_filter, Finset.mem_Ico] at hj
    exact Finset.le_sup (f := fun j => f j (b + (y 1).val)) (Finset.mem_range.2 hj.1.2)
  · refine Finset.sup_le fun j hj => ?_
    refine le_trans ?_ (Finset.le_sup (Finset.mem_univ (⟨j % 8, Nat.mod_lt _ (by norm_num)⟩ : Fin 8)))
    exact Finset.le_sup (f := fun j => f j (b + (y 1).val))
      (Finset.mem_filter.2 ⟨Finset.mem_Ico.2 ⟨Nat.zero_le _, Finset.mem_range.1 hj⟩, rfl⟩)

/-- The sum over all rows below `t`. -/
theorem row_octSum (t : Nat) (axes : List (Fin S8x128.rank)) (hx : axes = [0]) (h) (h' : FTy.f32 = FTy.f32 ∨ FTy.f32 = FTy.bf16) (h'' : (0#32 : BitVec 32) = 0#32) (hc) : shapeCast S1x128 (multiReduction .add axes S128
    (octSum (φ := .f32) f 0 t b) 0#32 h h' h'') hc = row (fun q => ∑ j ∈ Finset.range t, f j q) b := by
  subst hx
  funext y
  pointwise [row_apply, octSum]
  rw [← Finset.sum_fiberwise_of_maps_to (t := (Finset.univ : Finset (Fin 8))) (s := Finset.range t)
    (g := fun j => (⟨j % 8, Nat.mod_lt _ (by norm_num)⟩ : Fin 8)) (fun _ _ => Finset.mem_univ _)]
  refine Finset.sum_congr rfl fun k _ => Finset.sum_congr ?_ fun _ _ => rfl
  ext j
  simp only [Finset.mem_filter, Finset.mem_Ico, Finset.mem_range, Fin.ext_iff, Nat.zero_le, true_and]
end Cert.Ring
end
-- ==== Proof.Score.lean ====
/-
  The scores: what the kernel's products of keys and queries, its scales and its mask are as functions of positions.
-/
module

public import proofs.«01_k».proof.Proof.Contents
public import proofs.«01_k».proof.Proof.Norm

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (c : Dev nD) (i : grid0.Coords) (arg2 : Memref sig .tc .smem S2x24 .f32) (harg2 : arg2.IsWhole)
  (arg3 : Memref sig .tc .vmem S1x1x3x96x768 .fp8e4m3) (harg3 : arg3.IsWhole)
  (arg4 : Memref sig .tc .vmem S1x1x96x768 .fp8e4m3) (harg4 : arg4.IsWhole)
  (arg5 : Memref sig .tc .vmem S1x1x96x768 .fp8e4m3) (harg5 : arg5.IsWhole)
  (arg6 : Memref sig .tc .vmem S1x1x1x768 .f32) (harg6 : arg6.IsWhole)
  (arg7 : Memref sig .tc .vmem S1x1x1x768 .f32) (harg7 : arg7.IsWhole)
  (arg14 : Memref sig .tc .vmem S768x128 .fp8e4m3) (arg15 : Memref sig .tc .vmem S96x768 .bf16)
  (arg16 : Memref sig .tc .vmem S3x768x128 .f32) (arg17 : Memref sig .tc .vmem S768x128 .f32)
  (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)

/-! ## The inputs as functions of positions -/

/-- Key `j`'s code in channel `d`, zero in the padded channels. -/
def keyN (j d : Nat) : EReal := if d < 96 then x2 (ix4 (0 : Fin 1) (0 : Fin 1) (Fin.ofNat 96 d) (Fin.ofNat 768 j)) else 0

/-- Head `r`'s query `q`'s code in channel `d`, zero in the padded channels. -/
def queryN (r d q : Nat) : EReal :=
  if d < 96 then x1 (ix5 (0 : Fin 1) (0 : Fin 1) (Fin.ofNat 3 r) (Fin.ofNat 96 d) (Fin.ofNat 768 q)) else 0

/-- The product of key `j` and head `r`'s query `q`. -/
def dotN (r j q : Nat) : EReal := dotKQ x1 x2 (Fin.ofNat 3 r) (Fin.ofNat 768 q) (Fin.ofNat 768 j)

/-- The scale of a score against key `j`, times `log₂ e`. -/
def scaleN (r j : Nat) : EReal := factor i x0 x4 (Fin.ofNat 3 r) (Fin.ofNat 768 j) * L2E

/-- The score of query `q` of head `r` against key `j`, times `log₂ e`, unmasked. -/
def rawN (r j q : Nat) : EReal := dotN x1 x2 r j q * scaleN i x0 x4 r j

/-- The same with the causal mask. -/
def scoreN (r j q : Nat) : EReal := if j ≤ q then rawN i x0 x1 x2 x4 r j q else ⊥

theorem ofNat_eq {n k : Nat} [NeZero n] (h : k < n) : Fin.ofNat n k = ⟨k, h⟩ := Fin.ext (Nat.mod_eq_of_lt h)

/-! ## The scratch arrays read back -/

/-- The stores of the key scratch array cover it. -/
theorem keys_cover (y : S768x128.Idx) : ∃ p ∈ HS0_6 (F := Ideal) c arg4 harg4 x2, y ∈ p.1.set := by
  have h0 : (y 0).val < 768 := (y 0).isLt
  have h1 : (y 1).val < 128 := (y 1).isLt
  unfold HS0_6
  simp [Rect.mem_set_unit, Fin.forall_fin_two]
  omega

/-- Rows of the key scratch array. -/
theorem keys_read {n : Nat} (o : Nat) (h) : arg14.view.readCov (HS0_6 (F := Ideal) c arg4 harg4 x2)
    (Rect.unit (s := S768x128) ![o, 0] ![n, 128] h).toLoadRect = blk (φ := .fp8e4m3) (n := n) (m := 128) (keyN x2) o 0 := by
  rw [readCov_of_pieces _ _ _ (keys_pieces c arg4 harg4 x2) _ fun j => keys_cover c arg4 harg4 x2 _]
  have ho : o + n ≤ 768 := h 0
  funext y
  have hy : (y 0).val < n := (y 0).isLt
  pointwise [keysT, blk_apply, keyN]
  split_ifs with h96
  · rw [ofNat_eq h96, ofNat_eq (show o + (y 0).val < 768 by omega)]
  · rfl

/-- Rows of the score-scale scratch array, as they are loaded. -/
def scaleBlk (r o : Nat) : FVec Ideal S1x128x128 .f32 := fun y => scaleN i x0 x4 r (o + (y 1).val)

theorem scale_read (r o : Nat) (h) : arg16.view.readCov (HS2_3 (F := Ideal) c i arg2 harg2 arg6 harg6 x0 x4)
    (Rect.unit (s := S3x768x128) ![r, o, 0] ![1, 128, 128] h).toLoadRect
      = scaleBlk i x0 x4 r o := by
  have hr : r + 1 ≤ 3 := h 0
  have ho : o + 128 ≤ 768 := h 1
  rw [readCov_of_pieces _ _ _ (scale_pieces c i arg2 harg2 arg6 harg6 x0 x4) _ fun j => ?_]
  · funext y
    have hy : (y 1).val < 128 := (y 1).isLt
    pointwise [scaleF, scaleBlk, scaleN]
    rw [ofNat_eq (show r < 3 by omega), ofNat_eq (show o + (y 1).val < 768 by omega)]
  · generalize (Rect.unit (s := S3x768x128) ![r, o, 0] ![1, 128, 128] h).idx j = y
    have h0 : (y 0).val < 3 := (y 0).isLt
    have h1 : (y 1).val < 768 := (y 1).isLt
    have h2 : (y 2).val < 128 := (y 2).isLt
    unfold HS2_3
    simp [Rect.mem_set_unit, Fin.forall_fin_succ]
    omega

theorem mulf_scale (r o b : Nat) (f : Nat → Nat → EReal) (hc) : mulf (blk (n := 128) (m := 128) (φ := .f32) f o b)
    (shapeCast S128x128 (scaleBlk i x0 x4 r o) hc)
      = blk (fun j q => f j q * scaleN i x0 x4 r j) o b := by
  funext y
  pointwise [blk_apply, scaleBlk]

/-! ## The products -/

/-- A query block over its padding rows. -/
def padded (A : FVec Ideal S96x256 .fp8e4m3) (B : FVec Ideal S32x256 .fp8e4m3) : FVec Ideal S128x256 .fp8e4m3 :=
  concatenate S128x256 0 [⟨S96x256, A⟩, ⟨S32x256, B⟩] concatenates_S96x256_S32x256_S128x256_d0

theorem padded_eq (A : FVec Ideal S96x256 .fp8e4m3) (B : FVec Ideal S32x256 .fp8e4m3) (hc) :
    concatenate S128x256 0 [⟨S96x256, A⟩, ⟨S32x256, B⟩] hc = padded A B := rfl

/-- Head `r`'s query `q`'s code in channel `d`. -/
def codeN (r d q : Nat) : EReal := x1 (ix5 (0 : Fin 1) (0 : Fin 1) (Fin.ofNat 3 r) (Fin.ofNat 96 d) (Fin.ofNat 768 q))

/-- A query block, as it is loaded. -/
def codeBlk (r o : Nat) : FVec Ideal S1x1x1x96x256 .fp8e4m3 := fun y => codeN x1 r (y 3).val (o + (y 4).val)

theorem query_read (r o : Nat) (h) : View.readAt (Elt Ideal) arg3.view
    (Rect.unit (s := S1x1x3x96x768) ![0, 0, r, 0, o] ![1, 1, 1, 96, 256] h).toLoadRect (harg3.unread x1) = codeBlk x1 r o := by
  have hr : r + 1 ≤ 3 := h 2
  have ho : o + 256 ≤ 768 := h 4
  rw [View.readAt_eq_ld, harg3.read_unread (Val := Elt Ideal) x1]
  funext y
  have h0 : (y 3).val < 96 := (y 3).isLt
  have h1 : (y 4).val < 256 := (y 4).isLt
  pointwise [codeBlk, codeN]
  rw [ofNat_eq (show r < 3 by omega), ofNat_eq h0, ofNat_eq (show o + (y 4).val < 768 by omega)]
  rfl

theorem cast_query (r o : Nat) (hs) : shapeCast S96x256 (codeBlk x1 r o) hs = blk (n := 96) (m := 256) (codeN x1 r) 0 o := by
  funext y
  pointwise [codeBlk, blk_apply]

theorem pad_query (r o : Nat) : padded (blk (n := 96) (m := 256) (codeN x1 r) 0 o)
    (broadcast S32x256 (FloatOps.ofBits (F := Ideal) FTy.fp8e4m3 0#8)) = blk (n := 128) (m := 256) (queryN x1 r) 0 o := by
  have z : Ideal.ofBits FTy.fp8e4m3 0#8 = 0 := by simp [Ideal.ofBits, Ideal.e4m3fn]
  funext y
  pointwise [padded, blk_apply, queryN, codeN, z]
  split_ifs <;> rfl

theorem sum_pad (r j q : Nat) : ∑ d : Fin 128, keyN x2 j d.val * queryN x1 r d.val q = dotN x1 x2 r j q := by
  unfold keyN queryN dotN dotKQ
  refine (Fin.sum_univ_add (a := 96) (b := 32) _).trans ?_
  rw [Finset.sum_eq_zero (s := (Finset.univ : Finset (Fin 32)))
    fun d _ => by simp only [Fin.val_natAdd, show ¬(96 + d.val < 96) by omega, if_false, zero_mul], add_zero]
  refine Finset.sum_congr rfl fun d _ => ?_
  have e : Fin.ofNat 96 d.val = d := ofNat_eq d.isLt
  simp only [Fin.val_castAdd, d.isLt, if_true, e]

theorem product_1 (o b r : Nat) : matmul dot_S128x128_S128x256_S128x256_1_0_0_1_n_n none
    (blk (φ := .fp8e4m3) (n := 128) (m := 128) (keyN x2) o 0) (blk (φ := .fp8e4m3) (n := 128) (m := 256) (queryN x1 r) 0 b)
      (constant S128x256 FTy.f32 0#32) = blk (dotN x1 x2 r) o b := by
  funext y
  pointwise [blk_apply]
  exact sum_pad x1 x2 r _ _

theorem product_2 (o b r : Nat) : matmul dot_S384x128_S128x256_S384x256_1_0_0_1_n_n none
    (blk (φ := .fp8e4m3) (n := 384) (m := 128) (keyN x2) o 0) (blk (φ := .fp8e4m3) (n := 128) (m := 256) (queryN x1 r) 0 b)
      (constant S384x256 FTy.f32 0#32) = blk (dotN x1 x2 r) o b := by
  funext y
  pointwise [blk_apply]
  exact sum_pad x1 x2 r _ _

theorem product_3 (o b r : Nat) : matmul dot_S640x128_S128x256_S640x256_1_0_0_1_n_n none
    (blk (φ := .fp8e4m3) (n := 640) (m := 128) (keyN x2) o 0) (blk (φ := .fp8e4m3) (n := 128) (m := 256) (queryN x1 r) 0 b)
      (constant S640x256 FTy.f32 0#32) = blk (dotN x1 x2 r) o b := by
  funext y
  pointwise [blk_apply]
  exact sum_pad x1 x2 r _ _

theorem product_d (o b r : Nat) : matmul dot_S128x128_S128x128_S128x128_1_0_0_1_n_n none
    (blk (φ := .fp8e4m3) (n := 128) (m := 128) (keyN x2) o 0) (blk (φ := .fp8e4m3) (n := 128) (m := 128) (queryN x1 r) 0 b)
      (constant S128x128 FTy.f32 0#32) = blk (dotN x1 x2 r) o b := by
  funext y
  pointwise [blk_apply]
  exact sum_pad x1 x2 r _ _

/-! ## The mask -/

/-- The kernel's mask: zero where the key is not after the query, `-∞` elsewhere. -/
theorem mask_apply (y : S128x128.Idx) : v224 (F := Ideal) y = if (y 0).val ≤ (y 1).val then 0 else ⊥ := by
  have h0 : (y 0).val < 128 := (y 0).isLt
  have h1 : (y 1).val < 128 := (y 1).isLt
  simp only [v224, v223, v222, v219, v220, cst_74, cst_75]
  pointwise [ofBits_neg_inf]
  have e0 : (BitVec.ofNat 32 (y 0).val).toInt = (y 0).val := by
    rw [BitVec.toInt_eq_toNat_of_lt] <;> rw [BitVec.toNat_ofNat] <;> omega
  have e1 : (BitVec.ofNat 32 (y 1).val).toInt = (y 1).val := by
    rw [BitVec.toInt_eq_toNat_of_lt] <;> rw [BitVec.toNat_ofNat] <;> omega
  by_cases h : (y 0).val ≤ (y 1).val <;>
    simp [Scalar.select, IntOp.cmpi, BitVec.sle, h, e0, e1]

theorem tile_diag (a r : Nat) : addf (blk (n := 128) (m := 128) (φ := .f32) (fun j q => dotN x1 x2 r j q * scaleN i x0 x4 r j) a a) v224
    = blk (scoreN i x0 x1 x2 x4 r) a a := by
  funext y
  show _ + v224 (F := Ideal) y = _
  rw [mask_apply]
  simp only [blk_apply, scoreN, rawN, Nat.add_le_add_iff_left]
  split_ifs
  · exact add_zero _
  · exact EReal.add_bot _

theorem tile_below (a b r : Nat) (h : a + 128 ≤ b) : blk (n := 128) (m := 128) (φ := .f32) (fun j q => dotN x1 x2 r j q * scaleN i x0 x4 r j) a b
    = blk (scoreN i x0 x1 x2 x4 r) a b := by
  funext y
  have h0 : (y 0).val < 128 := (y 0).isLt
  simp only [blk_apply, scoreN, rawN]
  rw [if_pos (by omega)]

end Cert.Ring
end
-- ==== Proof.Tiles.lean ====
/-
  The score tiles: every tile the kernel stores holds the masked scores of its positions, so every tile it loads back
  does.
-/
module

public import proofs.«01_k».proof.Proof.Score

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (c : Dev nD) (i : grid0.Coords) (arg2 : Memref sig .tc .smem S2x24 .f32) (harg2 : arg2.IsWhole)
  (arg3 : Memref sig .tc .vmem S1x1x3x96x768 .fp8e4m3) (harg3 : arg3.IsWhole)
  (arg4 : Memref sig .tc .vmem S1x1x96x768 .fp8e4m3) (harg4 : arg4.IsWhole)
  (arg5 : Memref sig .tc .vmem S1x1x96x768 .fp8e4m3) (harg5 : arg5.IsWhole)
  (arg6 : Memref sig .tc .vmem S1x1x1x768 .f32) (harg6 : arg6.IsWhole)
  (arg7 : Memref sig .tc .vmem S1x1x1x768 .f32) (harg7 : arg7.IsWhole)
  (arg14 : Memref sig .tc .vmem S768x128 .fp8e4m3) (arg15 : Memref sig .tc .vmem S96x768 .bf16)
  (arg16 : Memref sig .tc .vmem S3x768x128 .f32) (arg17 : Memref sig .tc .vmem S768x128 .f32)
  (arg18 : Memref sig .tc .vmem S3x6x768x128 .f32)
  (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)

/-- A tile as it is stored. -/
def blk4 (f : Nat → Nat → EReal) (a b : Nat) : FVec Ideal S1x1x128x128 .f32 := fun y => f (a + (y 2).val) (b + (y 3).val)

theorem cast_blk4 (f : Nat → Nat → EReal) (a b : Nat) (hc) :
    shapeCast S1x1x128x128 (blk (n := 128) (m := 128) (φ := .f32) f a b) hc = blk4 f a b := by
  funext y
  pointwise [blk_apply, blk4]

theorem cast_of_blk4 (f : Nat → Nat → EReal) (a b : Nat) (hc) :
    shapeCast S128x128 (blk4 f a b) hc = blk (n := 128) (m := 128) (φ := .f32) f a b := by
  funext y
  pointwise [blk_apply, blk4]

/-- The masked scores, laid out as the kernel keeps them: head, query chunk, key, query within the chunk. -/
def tilesN : S3x6x768x128.Idx → EReal :=
  fun j => scoreN i x0 x1 x2 x4 (j 0).val (j 2).val (128 * (j 1).val + (j 3).val)

theorem ld_tiles (r k o : Nat) (h) (y) : View.ld (Val := Elt Ideal) (e' := .f32) (tilesN i x0 x1 x2 x4)
    (Rect.unit (s := S3x6x768x128) ![r, k, o, 0] ![1, 1, 128, 128] h) y = blk4 (scoreN i x0 x1 x2 x4 r) o (128 * k) y := by
  pointwise [tilesN, blk4]

set_option maxHeartbeats 4000000 in
/-- The tiles' stores. -/
theorem tile_pieces : ∀ p ∈ HS4_63 (F := Ideal) c i arg2 harg2 arg3 harg3 arg4 harg4 arg6 harg6 arg14 arg16 x0 x1 x2 x4,
    ∀ y, p.2 y = View.ld (Val := Elt Ideal) (tilesN i x0 x1 x2 x4) p.1 y := by
  simp only [HS4_63, HS4_57, HS4_52, HS4_48, HS4_45, HS4_43, HS4_42, HS4_36, HS4_31, HS4_27, HS4_24, HS4_22, HS4_21, HS4_15, HS4_10, HS4_6, HS4_3, HS4_1,
    List.forall_mem_cons, List.not_mem_nil, false_imp_iff, implies_true, and_true]
  and_intros <;> intro y <;>
   (simp only [
      cst_81, cst_84, cst_87, cst_205, cst_385, r_63, v226, v227, v228, v229, v230, v231, v232, v233, v234,
      v235, v236, v237, v238, v281, v289, v367, v369, v370, v371, v372, v373, v374, v375, v378, v381, v384,
      v385, v386, v387, v390, v394, v395, v463, v466, v469, v472, v475, v478, v482, v483, v484, v485, v488,
      v492, v493, v494, v592, v594, v595, v596, v597, v598, v599, v600, v603, v606, v609, v612, v615, v619,
      v622, v625, v629, v632, v635, v639, v640, v641, v642, v643, v646, v730, v733, v736, v739, v742, v745,
      v749, v752, v755, v759, v762, v765, v769, v772, v775, v779, v780, v781, v782, v785, v901, v903, v905,
      v907, v908, v909, v910, v911, v912, v913, v916, v956, v964, v1042, v1044, v1046, v1048, v1049, v1050,
      v1053, v1056, v1059, v1060, v1061, v1062, v1065, v1069, v1070, v1071, v1072, v1138, v1141, v1144, v1147,
      v1150, v1153, v1157, v1160, v1163, v1167, v1168, v1169, v1170, v1267, v1269, v1271, v1273, v1274, v1275,
      v1278, v1281, v1284, v1287, v1290, v1294, v1297, v1305, v1315, v1405, v1408, v1411, v1414, v1417, v1420,
      v1424, v1427, v1430, v1434, v1437, v1440, v1444, v1445, v1446, v1447, v1450, v1454, v1455, v1456, v1457,
      v1460, v1576, v1578, v1580, v1582, v1583, v1584, v1585, v1586, v1587, v1588, v1591, v1631, v1639, v1717,
      v1719, v1721, v1723, v1724, v1725, v1728, v1731, v1734, v1735, v1736, v1737, v1740, v1744, v1745, v1746,
      v1747, v1748, v1813, v1816, v1819, v1822, v1825, v1828, v1832, v1835, v1838, v1842, v1843, v1844, v1845,
      v1942, v1944, v1946, v1948, v1949, v1950, v1953, v1956, v1959, v1962, v1965, v1969, v1972, v1980, v1990,
      v2100, v2129, k0_pay29, k0_pay41, k0_pay42, k0_pay43, k0_pay44, k0_pay69, k0_pay70, k0_pay93, k0_pay94,
      k0_pay202, k0_pay203, k0_pay204, k0_pay205, k0_pay230, k0_pay231, k0_pay254, k0_pay283, k0_pay284,
      k0_pay285, k0_pay286, k0_pay287, k0_pay360, k0_pay361, k0_pay362, k0_pay363, k0_pay389, k0_pay412,
      k0_pay442, k0_pay443, k0_pay444, k0_pay445, k0_pay446, k0_pay465, k0_pay466, k0_pay467, k0_pay468,
      k0_pay470, k0_pay471, k0_pay473, k0_pay474, k0_pay475, k0_pay476, k0_pay477, k0_pay478,
      keys_read, query_read, cast_query, padded_eq, pad_query, product_1, product_2, product_3, product_d, slice_blk, scale_read, mulf_scale,
      tile_diag, tile_below, cast_blk4, Nat.reduceAdd, Nat.reduceMul, Nat.reduceLeDiff]
    exact (ld_tiles i x0 x1 x2 x4 _ _ _ _ y).symm)

theorem exists_tail {α : Type*} {a : α} {l : List α} {P : α → Prop} (h : ∃ p ∈ l, P p) : ∃ p ∈ a :: l, P p := by
  obtain ⟨p, hp, h⟩ := h
  exact ⟨p, List.mem_cons_of_mem _ hp, h⟩

/-- A tile read back from a list of stores that are among the kernel's tile stores, one of which is this tile's. -/
theorem read_tile (L) (r k o : Nat) (h)
    (hL : ∀ p ∈ L, p ∈ HS4_63 (F := Ideal) c i arg2 harg2 arg3 harg3 arg4 harg4 arg6 harg6 arg14 arg16 x0 x1 x2 x4)
    (hB : ∃ p ∈ L, p.1 = Rect.unit (s := S3x6x768x128) ![r, k, o, 0] ![1, 1, 128, 128] h) :
    arg18.view.readCov L (Rect.unit (s := S3x6x768x128) ![r, k, o, 0] ![1, 1, 128, 128] h).toLoadRect
      = blk4 (scoreN i x0 x1 x2 x4 r) o (128 * k) := by
  rw [readCov_of_pieces arg18.view (tilesN i x0 x1 x2 x4) L (fun p hp => tile_pieces c i arg2 harg2 arg3 harg3 arg4 harg4 arg6 harg6 arg14 arg16 x0 x1 x2 x4 p (hL p hp))
    (Rect.unit (s := S3x6x768x128) ![r, k, o, 0] ![1, 1, 128, 128] h) (fun j => by
      obtain ⟨p, hp, e⟩ := hB
      exact ⟨p, hp, by rw [e]; exact LoadRect.idx_mem _ j⟩)]
  funext y
  exact ld_tiles i x0 x1 x2 x4 r k o h y

/-- Every tile the kernel reads back holds the scores of its positions. -/
theorem reads :
    (∀ o h, o % 128 = 0 → o < 128 → arg18.view.readCov (HS4_1 c i arg2 harg2 arg3 harg3 arg4 harg4 arg6 harg6 arg14 arg16 x0 x1 x2 x4) (Rect.unit (s := S3x6x768x128) ![0, 0, o, 0] ![1, 1, 128, 128] h).toLoadRect
      = blk4 (scoreN i x0 x1 x2 x4 0) o 0) ∧
    (∀ o h, o % 128 = 0 → o < 256 → arg18.view.readCov (HS4_3 c i arg2 harg2 arg3 harg3 arg4 harg4 arg6 harg6 arg14 arg16 x0 x1 x2 x4) (Rect.unit (s := S3x6x768x128) ![0, 1, o, 0] ![1, 1, 128, 128] h).toLoadRect
      = blk4 (scoreN i x0 x1 x2 x4 0) o 128) ∧
    (∀ o h, o % 128 = 0 → o < 384 → arg18.view.readCov (HS4_6 c i arg2 harg2 arg3 harg3 arg4 harg4 arg6 harg6 arg14 arg16 x0 x1 x2 x4) (Rect.unit (s := S3x6x768x128) ![0, 2, o, 0] ![1, 1, 128, 128] h).toLoadRect
      = blk4 (scoreN i x0 x1 x2 x4 0) o 256) ∧
    (∀ o h, o % 128 = 0 → o < 512 → arg18.view.readCov (HS4_10 c i arg2 harg2 arg3 harg3 arg4 harg4 arg6 harg6 arg14 arg16 x0 x1 x2 x4) (Rect.unit (s := S3x6x768x128) ![0, 3, o, 0] ![1, 1, 128, 128] h).toLoadRect
      = blk4 (scoreN i x0 x1 x2 x4 0) o 384) ∧
    (∀ o h, o % 128 = 0 → o < 640 → arg18.view.readCov (HS4_15 c i arg2 harg2 arg3 harg3 arg4 harg4 arg6 harg6 arg14 arg16 x0 x1 x2 x4) (Rect.unit (s := S3x6x768x128) ![0, 4, o, 0] ![1, 1, 128, 128] h).toLoadRect
      = blk4 (scoreN i x0 x1 x2 x4 0) o 512) ∧
    (∀ o h, o % 128 = 0 → o < 768 → arg18.view.readCov (HS4_21 c i arg2 harg2 arg3 harg3 arg4 harg4 arg6 harg6 arg14 arg16 x0 x1 x2 x4) (Rect.unit (s := S3x6x768x128) ![0, 5, o, 0] ![1, 1, 128, 128] h).toLoadRect
      = blk4 (scoreN i x0 x1 x2 x4 0) o 640) ∧
    (∀ o h, o % 128 = 0 → o < 128 → arg18.view.readCov (HS4_22 c i arg2 harg2 arg3 harg3 arg4 harg4 arg6 harg6 arg14 arg16 x0 x1 x2 x4) (Rect.unit (s := S3x6x768x128) ![1, 0, o, 0] ![1, 1, 128, 128] h).toLoadRect
      = blk4 (scoreN i x0 x1 x2 x4 1) o 0) ∧
    (∀ o h, o % 128 = 0 → o < 256 → arg18.view.readCov (HS4_24 c i arg2 harg2 arg3 harg3 arg4 harg4 arg6 harg6 arg14 arg16 x0 x1 x2 x4) (Rect.unit (s := S3x6x768x128) ![1, 1, o, 0] ![1, 1, 128, 128] h).toLoadRect
      = blk4 (scoreN i x0 x1 x2 x4 1) o 128) ∧
    (∀ o h, o % 128 = 0 → o < 384 → arg18.view.readCov (HS4_27 c i arg2 harg2 arg3 harg3 arg4 harg4 arg6 harg6 arg14 arg16 x0 x1 x2 x4) (Rect.unit (s := S3x6x768x128) ![1, 2, o, 0] ![1, 1, 128, 128] h).toLoadRect
      = blk4 (scoreN i x0 x1 x2 x4 1) o 256) ∧
    (∀ o h, o % 128 = 0 → o < 512 → arg18.view.readCov (HS4_31 c i arg2 harg2 arg3 harg3 arg4 harg4 arg6 harg6 arg14 arg16 x0 x1 x2 x4) (Rect.unit (s := S3x6x768x128) ![1, 3, o, 0] ![1, 1, 128, 128] h).toLoadRect
      = blk4 (scoreN i x0 x1 x2 x4 1) o 384) ∧
    (∀ o h, o % 128 = 0 → o < 640 → arg18.view.readCov (HS4_36 c i arg2 harg2 arg3 harg3 arg4 harg4 arg6 harg6 arg14 arg16 x0 x1 x2 x4) (Rect.unit (s := S3x6x768x128) ![1, 4, o, 0] ![1, 1, 128, 128] h).toLoadRect
      = blk4 (scoreN i x0 x1 x2 x4 1) o 512) ∧
    (∀ o h, o % 128 = 0 → o < 768 → arg18.view.readCov (HS4_42 c i arg2 harg2 arg3 harg3 arg4 harg4 arg6 harg6 arg14 arg16 x0 x1 x2 x4) (Rect.unit (s := S3x6x768x128) ![1, 5, o, 0] ![1, 1, 128, 128] h).toLoadRect
      = blk4 (scoreN i x0 x1 x2 x4 1) o 640) ∧
    (∀ o h, o % 128 = 0 → o < 128 → arg18.view.readCov (HS4_43 c i arg2 harg2 arg3 harg3 arg4 harg4 arg6 harg6 arg14 arg16 x0 x1 x2 x4) (Rect.unit (s := S3x6x768x128) ![2, 0, o, 0] ![1, 1, 128, 128] h).toLoadRect
      = blk4 (scoreN i x0 x1 x2 x4 2) o 0) ∧
    (∀ o h, o % 128 = 0 → o < 256 → arg18.view.readCov (HS4_45 c i arg2 harg2 arg3 harg3 arg4 harg4 arg6 harg6 arg14 arg16 x0 x1 x2 x4) (Rect.unit (s := S3x6x768x128) ![2, 1, o, 0] ![1, 1, 128, 128] h).toLoadRect
      = blk4 (scoreN i x0 x1 x2 x4 2) o 128) ∧
    (∀ o h, o % 128 = 0 → o < 384 → arg18.view.readCov (HS4_48 c i arg2 harg2 arg3 harg3 arg4 harg4 arg6 harg6 arg14 arg16 x0 x1 x2 x4) (Rect.unit (s := S3x6x768x128) ![2, 2, o, 0] ![1, 1, 128, 128] h).toLoadRect
      = blk4 (scoreN i x0 x1 x2 x4 2) o 256) ∧
    (∀ o h, o % 128 = 0 → o < 512 → arg18.view.readCov (HS4_52 c i arg2 harg2 arg3 harg3 arg4 harg4 arg6 harg6 arg14 arg16 x0 x1 x2 x4) (Rect.unit (s := S3x6x768x128) ![2, 3, o, 0] ![1, 1, 128, 128] h).toLoadRect
      = blk4 (scoreN i x0 x1 x2 x4 2) o 384) ∧
    (∀ o h, o % 128 = 0 → o < 640 → arg18.view.readCov (HS4_57 c i arg2 harg2 arg3 harg3 arg4 harg4 arg6 harg6 arg14 arg16 x0 x1 x2 x4) (Rect.unit (s := S3x6x768x128) ![2, 4, o, 0] ![1, 1, 128, 128] h).toLoadRect
      = blk4 (scoreN i x0 x1 x2 x4 2) o 512) ∧
    (∀ o h, o % 128 = 0 → o < 768 → arg18.view.readCov (HS4_63 c i arg2 harg2 arg3 harg3 arg4 harg4 arg6 harg6 arg14 arg16 x0 x1 x2 x4) (Rect.unit (s := S3x6x768x128) ![2, 5, o, 0] ![1, 1, 128, 128] h).toLoadRect
      = blk4 (scoreN i x0 x1 x2 x4 2) o 640) := by
  and_intros <;> intro o h h0 h1 <;> refine read_tile c i arg2 harg2 arg3 harg3 arg4 harg4 arg6 harg6 arg14 arg16 arg18 x0 x1 x2 x4 _ _ _ o h ?_ ?_
  all_goals first
    | (intro p hp
       repeat first | with_reducible exact hp | refine List.mem_cons_of_mem _ ?_)
    | (have h2 : o = 0 ∨ o = 128 ∨ o = 256 ∨ o = 384 ∨ o = 512 ∨ o = 640 := by omega
       rcases h2 with rfl | rfl | rfl | rfl | rfl | rfl
       all_goals first
         | exact absurd h1 (by decide)
         | repeat first | exact ⟨_, List.mem_cons_self, rfl⟩ | refine exists_tail ?_)

end Cert.Ring
end
-- ==== Proof.Update.lean ====
/-
  The update of the running maximum, sum and output, as functions of positions: the rules that turn a chunk's operations
  after the scores into these functions.
-/
module

public import proofs.«01_k».proof.Proof.Score

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (c : Dev nD) (i : grid0.Coords) (arg2 : Memref sig .tc .smem S2x24 .f32) (harg2 : arg2.IsWhole)
  (arg3 : Memref sig .tc .vmem S1x1x3x96x768 .fp8e4m3) (harg3 : arg3.IsWhole)
  (arg4 : Memref sig .tc .vmem S1x1x96x768 .fp8e4m3) (harg4 : arg4.IsWhole)
  (arg5 : Memref sig .tc .vmem S1x1x96x768 .fp8e4m3) (harg5 : arg5.IsWhole)
  (arg6 : Memref sig .tc .vmem S1x1x1x768 .f32) (harg6 : arg6.IsWhole)
  (arg7 : Memref sig .tc .vmem S1x1x1x768 .f32) (harg7 : arg7.IsWhole)
  (arg8 : Memref sig .tc .vmem S1x1x3x96x768 .f32) (harg8 : arg8.IsWhole)
  (arg9 : Memref sig .tc .vmem S1x1x3x768 .f32) (harg9 : arg9.IsWhole)
  (arg10 : Memref sig .tc .vmem S1x1x3x768 .f32) (harg10 : arg10.IsWhole)
  (arg14 : Memref sig .tc .vmem S768x128 .fp8e4m3) (arg15 : Memref sig .tc .vmem S96x768 .bf16)
  (arg16 : Memref sig .tc .vmem S3x768x128 .f32) (arg17 : Memref sig .tc .vmem S768x128 .f32)
  (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)
  (x6 : Vec Ideal S1x1x3x96x768 .f32) (x7 : Vec Ideal S1x1x3x768 .f32) (x8 : Vec Ideal S1x1x3x768 .f32)

/-! ## The functions -/

/-- A running statistic (the maximum, the sum) before the step. -/
def statN (r q : Nat) : EReal := x7 (ix4 (0 : Fin 1) (0 : Fin 1) (Fin.ofNat 3 r) (Fin.ofNat 768 q))

/-- The running output before the step. -/
def outN (r d q : Nat) : EReal := x6 (ix5 (0 : Fin 1) (0 : Fin 1) (Fin.ofNat 3 r) (Fin.ofNat 96 d) (Fin.ofNat 768 q))

/-- The values. -/
def valN (d j : Nat) : EReal := x3 (ix4 (0 : Fin 1) (0 : Fin 1) (Fin.ofNat 96 d) (Fin.ofNat 768 j))

/-- The value scales. -/
def vscN (j : Nat) : EReal := x5 (ix4 (0 : Fin 1) (0 : Fin 1) (0 : Fin 1) (Fin.ofNat 768 j))

/-- The largest score of a query. -/
def topN (r q : Nat) : EReal := (Finset.range 768).sup fun j => scoreN i x0 x1 x2 x4 r j q

/-- The new maximum, times `log₂ e`. -/
def max2N (r q : Nat) : EReal := max (statN x7 r q * L2E) (topN i x0 x1 x2 x4 r q)

/-- What the earlier sum and output are scaled by. -/
def alphaN (r q : Nat) : EReal := Ideal.exp2 (statN x7 r q * L2E - max2N i x0 x1 x2 x4 x7 r q)

/-- The weight of key `j` for query `q`. -/
def pN (r j q : Nat) : EReal := Ideal.exp2 (scoreN i x0 x1 x2 x4 r j q - max2N i x0 x1 x2 x4 x7 r q)

/-- The same times the key's value scale. -/
def wN (r j q : Nat) : EReal := pN i x0 x1 x2 x4 x7 r j q * vscN x5 j

/-- The weighted values' sum. -/
def pvN (r d q : Nat) : EReal := ∑ j ∈ Finset.range 768, valN x3 d j * wN i x0 x1 x2 x4 x5 x7 r j q

/-- The new maximum. -/
def newMax (r q : Nat) : EReal := max (statN x7 r q) (topN i x0 x1 x2 x4 r q * LN2)

/-- The new sum. -/
def newSum (r q : Nat) : EReal :=
  alphaN i x0 x1 x2 x4 x7 r q * statN x8 r q + ∑ j ∈ Finset.range 768, pN i x0 x1 x2 x4 x7 r j q

/-- The new output. -/
def newOut (r d q : Nat) : EReal :=
  alphaN i x0 x1 x2 x4 x7 r q * outN x6 r d q + pvN i x0 x1 x2 x3 x4 x5 x7 r d q

theorem pN_after (r j q : Nat) (h : q < j) : pN i x0 x1 x2 x4 x7 r j q = 0 := by
  unfold pN scoreN
  rw [if_neg (by omega), show ∀ y : EReal, (⊥ : EReal) - y = ⊥ from fun y => by rw [sub_eq_add_neg, EReal.bot_add]]
  rfl

theorem wN_after (r j q : Nat) (h : q < j) : wN i x0 x1 x2 x4 x5 x7 r j q = 0 := by
  rw [wN, pN_after i x0 x1 x2 x4 x7 r j q h, zero_mul]

/-- `ln 2`, the value the certificate gives the kernel's constant. -/
theorem named_ln2 : (Named.named (F := Ideal) (φ := .f32) κ "ln2" 0x3F317218#32 : EReal) = LN2 :=
  IdealRules.named_const.ideal_named_scalar _ _ _ _ rfl

/-! ## Loads -/

/-- A row, as it is loaded and stored. -/
def row4 (g : Nat → EReal) (b : Nat) : FVec Ideal S1x1x1x128 .f32 := fun y => g (b + (y 3).val)

/-- A block of the output, as it is loaded and stored. -/
def blk5 (f : Nat → Nat → EReal) (b : Nat) : FVec Ideal S1x1x1x96x128 .f32 := fun y => f (y 3).val (b + (y 4).val)

theorem cast_of_row4 (g : Nat → EReal) (b : Nat) (hc) : shapeCast S1x128 (row4 g b) hc = row (m := 128) (φ := .f32) g b := by
  funext y
  pointwise [row_apply, row4]

theorem cast_row (g : Nat → EReal) (b : Nat) (hc) : shapeCast S1x1x1x128 (row (m := 128) (φ := .f32) g b) hc = row4 g b := by
  funext y
  pointwise [row_apply, row4]

theorem cast_of_blk5 (f : Nat → Nat → EReal) (b : Nat) (hc) :
    shapeCast S96x128 (blk5 f b) hc = blk (n := 96) (m := 128) (φ := .f32) f 0 b := by
  funext y
  pointwise [blk_apply, blk5]

theorem cast_blk5 (f : Nat → Nat → EReal) (b : Nat) (hc) :
    shapeCast S1x1x1x96x128 (blk (n := 96) (m := 128) (φ := .f32) f 0 b) hc = blk5 f b := by
  funext y
  pointwise [blk_apply, blk5]

theorem stat_read (r b : Nat) (h) : View.readAt (Elt Ideal) arg9.view
    (Rect.unit (s := S1x1x3x768) ![0, 0, r, b] ![1, 1, 1, 128] h).toLoadRect (harg9.unread x7) = row4 (statN x7 r) b := by
  have hr : r + 1 ≤ 3 := h 2
  have ho : b + 128 ≤ 768 := h 3
  rw [View.readAt_eq_ld, harg9.read_unread (Val := Elt Ideal) x7]
  funext y
  have h1 : (y 3).val < 128 := (y 3).isLt
  pointwise [row4, statN]
  rw [ofNat_eq (show r < 3 by omega), ofNat_eq (show b + (y 3).val < 768 by omega)]

theorem out_read (r b : Nat) (h) : View.readAt (Elt Ideal) arg8.view
    (Rect.unit (s := S1x1x3x96x768) ![0, 0, r, 0, b] ![1, 1, 1, 96, 128] h).toLoadRect (harg8.unread x6) = blk5 (outN x6 r) b := by
  have hr : r + 1 ≤ 3 := h 2
  have ho : b + 128 ≤ 768 := h 4
  rw [View.readAt_eq_ld, harg8.read_unread (Val := Elt Ideal) x6]
  funext y
  have h0 : (y 3).val < 96 := (y 3).isLt
  have h1 : (y 4).val < 128 := (y 4).isLt
  pointwise [blk5, outN]
  rw [ofNat_eq (show r < 3 by omega), ofNat_eq h0, ofNat_eq (show b + (y 4).val < 768 by omega)]
  rfl

/-- Rows of the value scales. -/
def colBlk (g : Nat → EReal) (o : Nat) : FVec Ideal S128x128 .f32 := fun y => g (o + (y 0).val)

theorem vscale_read (o : Nat) (h) : arg17.view.readCov (HS3_1 (F := Ideal) c arg7 harg7 x5)
    (Rect.unit (s := S768x128) ![o, 0] ![128, 128] h).toLoadRect = colBlk (vscN x5) o := by
  have ho : o + 128 ≤ 768 := h 0
  rw [readCov_of_pieces _ _ _ (vscale_pieces c arg7 harg7 x5) _ fun j => ?_]
  · funext y
    have hy : (y 0).val < 128 := (y 0).isLt
    pointwise [vscale, colBlk, vscN]
    rw [ofNat_eq (show o + (y 0).val < 768 by omega)]
  · generalize (Rect.unit (s := S768x128) ![o, 0] ![128, 128] h).idx j = y
    have h0 : (y 0).val < 768 := (y 0).isLt
    have h1 : (y 1).val < 128 := (y 1).isLt
    unfold HS3_1
    simp [Rect.mem_set_unit, Fin.forall_fin_two]
    exact ⟨h0, h1⟩

theorem vals_read {n : Nat} (h) : arg15.view.readCov (HS1_1 (F := Ideal) c arg5 harg5 x3)
    (Rect.unit (s := S96x768) ![0, 0] ![96, n] h).toLoadRect = blk (φ := .bf16) (n := 96) (m := n) (valN x3) 0 0 := by
  have hn : 0 + n ≤ 768 := h 1
  rw [readCov_of_pieces _ _ _ (vals_pieces c arg5 harg5 x3) _ fun j => ?_]
  · funext y
    have h0 : (y 0).val < 96 := (y 0).isLt
    have h1 : (y 1).val < n := (y 1).isLt
    pointwise [vals, blk_apply, valN]
    rw [ofNat_eq h0, ofNat_eq (show (y 1).val < 768 by omega)]
    rfl
  · generalize (Rect.unit (s := S96x768) ![0, 0] ![96, n] h).idx j = y
    have h0 : (y 0).val < 96 := (y 0).isLt
    have h1 : (y 1).val < 768 := (y 1).isLt
    unfold HS1_1
    simp [Rect.mem_set_unit, Fin.forall_fin_two]
    exact ⟨h0, h1⟩

/-! ## A chunk's rows and tiles -/

theorem top_row (r t b : Nat) (h : t = b + 128) (h' : t ≤ 768) : row (m := 128) (φ := .f32)
    (fun q => (Finset.range t).sup fun j => scoreN i x0 x1 x2 x4 r j q) b = row (topN i x0 x1 x2 x4 r) b := by
  funext y
  have h1 : (y 1).val < 128 := (y 1).isLt
  simp only [row_apply, topN]
  refine le_antisymm (Finset.sup_mono (Finset.range_subset_range.2 h')) (Finset.sup_le fun j _ => ?_)
  by_cases hj : j < t
  · exact Finset.le_sup (f := fun j => scoreN i x0 x1 x2 x4 r j (b + (y 1).val)) (Finset.mem_range.2 hj)
  · rw [scoreN, if_neg (by omega)]
    exact bot_le

theorem max2_row (r b : Nat) : row (m := 128) (φ := .f32) (fun q => max (statN x7 r q * L2E) (topN i x0 x1 x2 x4 r q)) b
    = row (max2N i x0 x1 x2 x4 x7 r) b := rfl

theorem newMax_row (r b : Nat) : row (m := 128) (φ := .f32) (fun q => max (statN x7 r q) (topN i x0 x1 x2 x4 r q * LN2)) b
    = row (newMax i x0 x1 x2 x4 x7 r) b := rfl

theorem alpha_row (r b : Nat) : row (m := 128) (φ := .f32) (fun q => Ideal.exp2 (statN x7 r q * L2E - max2N i x0 x1 x2 x4 x7 r q)) b
    = row (alphaN i x0 x1 x2 x4 x7 r) b := rfl

theorem p_blk (r a b : Nat) : blk (n := 128) (m := 128) (φ := .f32)
    (fun j q => Ideal.exp2 (scoreN i x0 x1 x2 x4 r j q - max2N i x0 x1 x2 x4 x7 r q)) a b
    = blk (pN i x0 x1 x2 x4 x7 r) a b := rfl

theorem w_blk (r a b : Nat) : mulf (blk (n := 128) (m := 128) (φ := .f32) (pN i x0 x1 x2 x4 x7 r) a b) (colBlk (vscN x5) a)
    = blk (wN i x0 x1 x2 x4 x5 x7 r) a b := rfl

theorem newSum_row (r t b : Nat) (h : t = b + 128) (h' : t ≤ 768) : row (m := 128) (φ := .f32)
    (fun q => alphaN i x0 x1 x2 x4 x7 r q * statN x8 r q + ∑ j ∈ Finset.range t, pN i x0 x1 x2 x4 x7 r j q) b
    = row (newSum i x0 x1 x2 x4 x7 x8 r) b := by
  funext y
  have h1 : (y 1).val < 128 := (y 1).isLt
  simp only [row_apply, newSum]
  congr 1
  refine Finset.sum_subset (Finset.range_subset_range.2 h') fun j _ hj => pN_after i x0 x1 x2 x4 x7 r j _ ?_
  rw [Finset.mem_range] at hj
  omega

theorem newOut_blk (r b : Nat) : blk (n := 96) (m := 128) (φ := .f32)
    (fun d q => alphaN i x0 x1 x2 x4 x7 r q * outN x6 r d q + pvN i x0 x1 x2 x3 x4 x5 x7 r d q) 0 b
    = blk (newOut i x0 x1 x2 x3 x4 x5 x6 x7 r) 0 b := rfl

/-! ## The weights side by side -/

theorem sum_below (r n d q : Nat) (hn : n ≤ 768) (hq : q < n) :
    ∑ j : Fin n, valN x3 d j.val * wN i x0 x1 x2 x4 x5 x7 r j.val q = pvN i x0 x1 x2 x3 x4 x5 x7 r d q := by
  rw [Fin.sum_univ_eq_sum_range (fun j => valN x3 d j * wN i x0 x1 x2 x4 x5 x7 r j q) n, pvN]
  refine Finset.sum_subset (Finset.range_subset_range.2 hn) fun j _ hj => ?_
  rw [Finset.mem_range] at hj
  rw [wN_after i x0 x1 x2 x4 x5 x7 r j q (by omega), mul_zero]

/-- 2 tiles of weights one below the other. -/
def stack2 (A0 A1 : FVec Ideal S128x128 .bf16) : FVec Ideal S256x128 .bf16 :=
  concatenate S256x128 0 [⟨S128x128, A0⟩, ⟨S128x128, A1⟩] concatenates_S128x128_S128x128_S256x128_d0

theorem stack2_eq (A0 A1 : FVec Ideal S128x128 .bf16) (hc) :
    concatenate S256x128 0 [⟨S128x128, A0⟩, ⟨S128x128, A1⟩] hc = stack2 A0 A1 := rfl

theorem stack2_blk (f : Nat → Nat → EReal) (b : Nat) : stack2 (blk f 0 b) (blk f 128 b) = blk (n := 256) (m := 128) f 0 b := by
  funext y
  pointwise [stack2, blk_apply]
  split_ifs <;> first | rfl | (congr 1; omega)

theorem stack2_zero (r b : Nat) (h : b + 128 ≤ 128) :
    stack2 (blk (wN i x0 x1 x2 x4 x5 x7 r) 0 b) (broadcast S128x128 (FloatOps.ofBits (F := Ideal) FTy.bf16 0#16))
      = blk (n := 256) (m := 128) (wN i x0 x1 x2 x4 x5 x7 r) 0 b := by
  have z : Ideal.ofBits FTy.bf16 0#16 = 0 := by simp [Ideal.ofBits, Ideal.ieee]
  funext y
  have h0 : (y 0).val < 256 := (y 0).isLt
  have h1 : (y 1).val < 128 := (y 1).isLt
  pointwise [stack2, blk_apply, z]
  split_ifs <;> first
    | rfl
    | (congr 1; omega)
    | (symm; apply wN_after; omega)

/-- Two columns of weights side by side. -/
def side2 (A B : FVec Ideal S256x128 .bf16) : FVec Ideal S256x256 .bf16 :=
  concatenate S256x256 1 [⟨S256x128, A⟩, ⟨S256x128, B⟩] concatenates_S256x128_S256x128_S256x256_d1

theorem side2_eq (A B : FVec Ideal S256x128 .bf16) (hc) :
    concatenate S256x256 1 [⟨S256x128, A⟩, ⟨S256x128, B⟩] hc = side2 A B := rfl

theorem side2_blk (f : Nat → Nat → EReal) (b b' : Nat) (h : b' = b + 128) :
    side2 (blk f 0 b) (blk f 0 b') = blk (n := 256) (m := 256) f 0 b := by
  subst h
  funext y
  pointwise [side2, blk_apply]
  split_ifs <;> first | rfl | (congr 1; omega)

theorem pv2 (r b : Nat) (h : b + 256 = 256) : matmul dot_S96x256_S256x256_S96x256_1_0_0_1_n_n none
    (blk (φ := .bf16) (n := 96) (m := 256) (valN x3) 0 0) (blk (φ := .bf16) (n := 256) (m := 256) (wN i x0 x1 x2 x4 x5 x7 r) 0 b)
      (constant S96x256 FTy.f32 0#32) = blk (pvN i x0 x1 x2 x3 x4 x5 x7 r) 0 b := by
  funext y
  have h1 : (y 1).val < 256 := (y 1).isLt
  pointwise [blk_apply]
  exact sum_below i x0 x1 x2 x3 x4 x5 x7 r 256 _ _ (by omega) (by omega)

/-- 4 tiles of weights one below the other. -/
def stack4 (A0 A1 A2 A3 : FVec Ideal S128x128 .bf16) : FVec Ideal S512x128 .bf16 :=
  concatenate S512x128 0 [⟨S128x128, A0⟩, ⟨S128x128, A1⟩, ⟨S128x128, A2⟩, ⟨S128x128, A3⟩] concatenates_S128x128_S128x128_S128x128_S128x128_S512x128_d0

theorem stack4_eq (A0 A1 A2 A3 : FVec Ideal S128x128 .bf16) (hc) :
    concatenate S512x128 0 [⟨S128x128, A0⟩, ⟨S128x128, A1⟩, ⟨S128x128, A2⟩, ⟨S128x128, A3⟩] hc = stack4 A0 A1 A2 A3 := rfl

theorem stack4_blk (f : Nat → Nat → EReal) (b : Nat) : stack4 (blk f 0 b) (blk f 128 b) (blk f 256 b) (blk f 384 b) = blk (n := 512) (m := 128) f 0 b := by
  funext y
  pointwise [stack4, blk_apply]
  split_ifs <;> first | rfl | (congr 1; omega)

theorem stack4_zero (r b : Nat) (h : b + 128 ≤ 384) :
    stack4 (blk (wN i x0 x1 x2 x4 x5 x7 r) 0 b) (blk (wN i x0 x1 x2 x4 x5 x7 r) 128 b) (blk (wN i x0 x1 x2 x4 x5 x7 r) 256 b) (broadcast S128x128 (FloatOps.ofBits (F := Ideal) FTy.bf16 0#16))
      = blk (n := 512) (m := 128) (wN i x0 x1 x2 x4 x5 x7 r) 0 b := by
  have z : Ideal.ofBits FTy.bf16 0#16 = 0 := by simp [Ideal.ofBits, Ideal.ieee]
  funext y
  have h0 : (y 0).val < 512 := (y 0).isLt
  have h1 : (y 1).val < 128 := (y 1).isLt
  pointwise [stack4, blk_apply, z]
  split_ifs <;> first
    | rfl
    | (congr 1; omega)
    | (symm; apply wN_after; omega)

/-- Two columns of weights side by side. -/
def side4 (A B : FVec Ideal S512x128 .bf16) : FVec Ideal S512x256 .bf16 :=
  concatenate S512x256 1 [⟨S512x128, A⟩, ⟨S512x128, B⟩] concatenates_S512x128_S512x128_S512x256_d1

theorem side4_eq (A B : FVec Ideal S512x128 .bf16) (hc) :
    concatenate S512x256 1 [⟨S512x128, A⟩, ⟨S512x128, B⟩] hc = side4 A B := rfl

theorem side4_blk (f : Nat → Nat → EReal) (b b' : Nat) (h : b' = b + 128) :
    side4 (blk f 0 b) (blk f 0 b') = blk (n := 512) (m := 256) f 0 b := by
  subst h
  funext y
  pointwise [side4, blk_apply]
  split_ifs <;> first | rfl | (congr 1; omega)

theorem pv4 (r b : Nat) (h : b + 256 = 512) : matmul dot_S96x512_S512x256_S96x256_1_0_0_1_n_n none
    (blk (φ := .bf16) (n := 96) (m := 512) (valN x3) 0 0) (blk (φ := .bf16) (n := 512) (m := 256) (wN i x0 x1 x2 x4 x5 x7 r) 0 b)
      (constant S96x256 FTy.f32 0#32) = blk (pvN i x0 x1 x2 x3 x4 x5 x7 r) 0 b := by
  funext y
  have h1 : (y 1).val < 256 := (y 1).isLt
  pointwise [blk_apply]
  exact sum_below i x0 x1 x2 x3 x4 x5 x7 r 512 _ _ (by omega) (by omega)

/-- 6 tiles of weights one below the other. -/
def stack6 (A0 A1 A2 A3 A4 A5 : FVec Ideal S128x128 .bf16) : FVec Ideal S768x128 .bf16 :=
  concatenate S768x128 0 [⟨S128x128, A0⟩, ⟨S128x128, A1⟩, ⟨S128x128, A2⟩, ⟨S128x128, A3⟩, ⟨S128x128, A4⟩, ⟨S128x128, A5⟩] concatenates_S128x128_S128x128_S128x128_S128x128_S128x128_S128x128_S768x128_d0

theorem stack6_eq (A0 A1 A2 A3 A4 A5 : FVec Ideal S128x128 .bf16) (hc) :
    concatenate S768x128 0 [⟨S128x128, A0⟩, ⟨S128x128, A1⟩, ⟨S128x128, A2⟩, ⟨S128x128, A3⟩, ⟨S128x128, A4⟩, ⟨S128x128, A5⟩] hc = stack6 A0 A1 A2 A3 A4 A5 := rfl

theorem stack6_blk (f : Nat → Nat → EReal) (b : Nat) : stack6 (blk f 0 b) (blk f 128 b) (blk f 256 b) (blk f 384 b) (blk f 512 b) (blk f 640 b) = blk (n := 768) (m := 128) f 0 b := by
  funext y
  pointwise [stack6, blk_apply]
  split_ifs <;> first | rfl | (congr 1; omega)

theorem stack6_zero (r b : Nat) (h : b + 128 ≤ 640) :
    stack6 (blk (wN i x0 x1 x2 x4 x5 x7 r) 0 b) (blk (wN i x0 x1 x2 x4 x5 x7 r) 128 b) (blk (wN i x0 x1 x2 x4 x5 x7 r) 256 b) (blk (wN i x0 x1 x2 x4 x5 x7 r) 384 b) (blk (wN i x0 x1 x2 x4 x5 x7 r) 512 b) (broadcast S128x128 (FloatOps.ofBits (F := Ideal) FTy.bf16 0#16))
      = blk (n := 768) (m := 128) (wN i x0 x1 x2 x4 x5 x7 r) 0 b := by
  have z : Ideal.ofBits FTy.bf16 0#16 = 0 := by simp [Ideal.ofBits, Ideal.ieee]
  funext y
  have h0 : (y 0).val < 768 := (y 0).isLt
  have h1 : (y 1).val < 128 := (y 1).isLt
  pointwise [stack6, blk_apply, z]
  split_ifs <;> first
    | rfl
    | (congr 1; omega)
    | (symm; apply wN_after; omega)

/-- Two columns of weights side by side. -/
def side6 (A B : FVec Ideal S768x128 .bf16) : FVec Ideal S768x256 .bf16 :=
  concatenate S768x256 1 [⟨S768x128, A⟩, ⟨S768x128, B⟩] concatenates_S768x128_S768x128_S768x256_d1

theorem side6_eq (A B : FVec Ideal S768x128 .bf16) (hc) :
    concatenate S768x256 1 [⟨S768x128, A⟩, ⟨S768x128, B⟩] hc = side6 A B := rfl

theorem side6_blk (f : Nat → Nat → EReal) (b b' : Nat) (h : b' = b + 128) :
    side6 (blk f 0 b) (blk f 0 b') = blk (n := 768) (m := 256) f 0 b := by
  subst h
  funext y
  pointwise [side6, blk_apply]
  split_ifs <;> first | rfl | (congr 1; omega)

theorem pv6 (r b : Nat) (h : b + 256 = 768) : matmul dot_S96x768_S768x256_S96x256_1_0_0_1_n_n none
    (blk (φ := .bf16) (n := 96) (m := 768) (valN x3) 0 0) (blk (φ := .bf16) (n := 768) (m := 256) (wN i x0 x1 x2 x4 x5 x7 r) 0 b)
      (constant S96x256 FTy.f32 0#32) = blk (pvN i x0 x1 x2 x3 x4 x5 x7 r) 0 b := by
  funext y
  have h1 : (y 1).val < 256 := (y 1).isLt
  pointwise [blk_apply]
  exact sum_below i x0 x1 x2 x3 x4 x5 x7 r 768 _ _ (by omega) (by omega)

end Cert.Ring
end
-- ==== Proof.NewMax.lean ====
/-
  The kernel's stores of the new maximum: every one holds the new maxima of its queries.
-/
module

public import proofs.«01_k».proof.Proof.Tiles
public import proofs.«01_k».proof.Proof.Update

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (i : grid0.Coords) (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)
  (x6 : Vec Ideal S1x1x3x96x768 .f32) (x7 : Vec Ideal S1x1x3x768 .f32) (x8 : Vec Ideal S1x1x3x768 .f32)

/-- The new maximum's block. -/
def maxArr : S1x1x3x768.Idx → EReal := fun j => newMax i x0 x1 x2 x4 x7 (j 2).val (j 3).val

theorem ld_maxArr (r b : Nat) (h) (y) : View.ld (Val := Elt Ideal) (e' := .f32) (maxArr i x0 x1 x2 x4 x7)
    (Rect.unit (s := S1x1x3x768) ![0, 0, r, b] ![1, 1, 1, 128] h) y = row4 (newMax i x0 x1 x2 x4 x7 r) b y := by
  pointwise [maxArr, row4]

set_option maxHeartbeats 16000000 in
/-- Its stores. -/
theorem max_pieces (c : Dev nD) (i : grid0.Coords) (arg2 : Memref sig .tc .smem S2x24 .f32) (harg2 : arg2.IsWhole) (arg3 : Memref sig .tc .vmem S1x1x3x96x768 .fp8e4m3) (harg3 : arg3.IsWhole) (arg4 : Memref sig .tc .vmem S1x1x96x768 .fp8e4m3) (harg4 : arg4.IsWhole) (arg5 : Memref sig .tc .vmem S1x1x96x768 .fp8e4m3) (harg5 : arg5.IsWhole) (arg6 : Memref sig .tc .vmem S1x1x1x768 .f32) (harg6 : arg6.IsWhole) (arg7 : Memref sig .tc .vmem S1x1x1x768 .f32) (harg7 : arg7.IsWhole) (arg8 : Memref sig .tc .vmem S1x1x3x96x768 .f32) (harg8 : arg8.IsWhole) (arg9 : Memref sig .tc .vmem S1x1x3x768 .f32) (harg9 : arg9.IsWhole) (arg10 : Memref sig .tc .vmem S1x1x3x768 .f32) (harg10 : arg10.IsWhole) (arg11 : Memref sig .tc .vmem S1x1x3x96x768 .f32) (harg11 : arg11.IsWhole) (arg12 : Memref sig .tc .vmem S1x1x3x768 .f32) (harg12 : arg12.IsWhole) (arg13 : Memref sig .tc .vmem S1x1x3x768 .f32) (harg13 : arg13.IsWhole) (arg14 : Memref sig .tc .vmem S768x128 .fp8e4m3) (harg14 : arg14.IsWhole) (arg15 : Memref sig .tc .vmem S96x768 .bf16) (harg15 : arg15.IsWhole) (arg16 : Memref sig .tc .vmem S3x768x128 .f32) (harg16 : arg16.IsWhole) (arg17 : Memref sig .tc .vmem S768x128 .f32) (harg17 : arg17.IsWhole) (arg18 : Memref sig .tc .vmem S3x6x768x128 .f32) (harg18 : arg18.IsWhole)
    (x0 : Vec Ideal S2x24 .f32) (x1 : Vec Ideal S1x1x3x96x768 .fp8e4m3) (x2 : Vec Ideal S1x1x96x768 .fp8e4m3) (x3 : Vec Ideal S1x1x96x768 .fp8e4m3) (x4 : Vec Ideal S1x1x1x768 .f32) (x5 : Vec Ideal S1x1x1x768 .f32) (x6 : Vec Ideal S1x1x3x96x768 .f32) (x7 : Vec Ideal S1x1x3x768 .f32) (x8 : Vec Ideal S1x1x3x768 .f32)  :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8).2.1, ∀ y, p.2 y = View.ld (Val := Elt Ideal) (e' := .f32) (maxArr i x0 x1 x2 x4 x7) p.1 y := by
  dsimp only [kernelRun0_A]
  simp only [List.forall_mem_cons, List.not_mem_nil, false_imp_iff, implies_true, and_true]
  and_intros <;> intro y <;>
   (simp only [
      cst_205, cst_385, cst_81, cst_84, cst_87, r_106, r_107, r_108, r_17, r_18, r_46, r_47, r_63, r_64, r_65,
      r_80, r_83, r_94, r_95, v1042, v1044, v1046, v1048, v1049, v1050, v1053, v1057, v1058, v1059, v1060, v1061,
      v1062, v1066, v1067, v1068, v1069, v1070, v1071, v1072, v1138, v1141, v1145, v1146, v1147, v1150, v1154,
      v1155, v1156, v1157, v1160, v1164, v1165, v1166, v1167, v1168, v1169, v1170, v1267, v1269, v1271, v1273,
      v1274, v1275, v1278, v1282, v1283, v1284, v1287, v1291, v1292, v1293, v1294, v1297, v1305, v1315, v1405,
      v1408, v1412, v1413, v1414, v1417, v1421, v1422, v1423, v1424, v1427, v1431, v1432, v1433, v1434, v1437,
      v1441, v1442, v1443, v1444, v1445, v1446, v1447, v1451, v1452, v1453, v1454, v1455, v1456, v1457, v1461,
      v1462, v1576, v1578, v1580, v1582, v1583, v1584, v1585, v1586, v1587, v1588, v1592, v1631, v1639, v1658,
      v1661, v1717, v1719, v1721, v1723, v1724, v1725, v1728, v1732, v1733, v1734, v1735, v1736, v1737, v1741,
      v1742, v1743, v1744, v1745, v1746, v1747, v1748, v1813, v1816, v1820, v1821, v1822, v1825, v1829, v1830,
      v1831, v1832, v1835, v1839, v1840, v1841, v1842, v1843, v1844, v1845, v1942, v1944, v1946, v1948, v1949,
      v1950, v1953, v1957, v1958, v1959, v1962, v1966, v1967, v1968, v1969, v1972, v1980, v1990, v2100, v2129,
      v226, v227, v228, v229, v230, v231, v232, v233, v234, v235, v236, v237, v238, v281, v289, v367, v369, v370,
      v371, v372, v373, v374, v375, v378, v382, v383, v384, v385, v386, v387, v391, v392, v393, v394, v395, v463,
      v466, v470, v471, v472, v475, v479, v480, v481, v482, v483, v484, v485, v489, v490, v491, v492, v493, v494,
      v592, v594, v595, v596, v597, v598, v599, v600, v603, v607, v608, v609, v612, v616, v617, v618, v619, v622,
      v626, v627, v628, v629, v632, v636, v637, v638, v639, v640, v641, v642, v643, v647, v648, v649, v650, v651,
      v730, v733, v737, v738, v739, v742, v746, v747, v748, v749, v752, v756, v757, v758, v759, v762, v766, v767,
      v768, v769, v772, v776, v777, v778, v779, v780, v781, v782, v901, v903, v905, v907, v908, v909, v910, v911,
      v912, v913, v956, v964, k0_pay30, k0_pay31, k0_pay34, k0_pay41, k0_pay43, k0_pay45, k0_pay46, k0_pay49,
      k0_pay69, k0_pay71, k0_pay72, k0_pay75, k0_pay93, k0_pay95, k0_pay96, k0_pay99, k0_pay130, k0_pay133,
      k0_pay161, k0_pay162, k0_pay165, k0_pay191, k0_pay192, k0_pay195, k0_pay202, k0_pay204, k0_pay206, k0_pay207,
      k0_pay210, k0_pay230, k0_pay232, k0_pay233, k0_pay236, k0_pay255, k0_pay256, k0_pay259, k0_pay284, k0_pay286,
      k0_pay288, k0_pay289, k0_pay292, k0_pay321, k0_pay322, k0_pay325, k0_pay350, k0_pay351, k0_pay354, k0_pay360,
      k0_pay362, k0_pay364, k0_pay365, k0_pay368, k0_pay390, k0_pay391, k0_pay394, k0_pay413, k0_pay414, k0_pay417,
      k0_pay443, k0_pay445, k0_pay447, k0_pay448, k0_pay451, k0_pay465, k0_pay467, k0_pay469, k0_pay470, k0_pay472,
      k0_pay473, k0_pay475, k0_pay477, k0_pay479, k0_pay480, k0_pay481, k0_pay484,
      keys_read, query_read, cast_query, padded_eq, pad_query, product_1, product_2, product_3, product_d,
      slice_blk, scale_read, mulf_scale, tile_diag, tile_below, reads, cast_of_blk4, octSup_blk, octSup_step,
      octSum_blk, octSum_step, row_octSup, row_octSum, stat_read, out_read, cast_of_row4, cast_row, cast_of_blk5,
      cast_blk5, named_log2e, named_ln2, mulf_row_const, mulf_row, addf_row, maximumf_row, subf_rows, exp2_row,
      mulf_row_blk, addf_blk, exp2_blk, subf_row, truncf_blk, top_row, max2_row, newMax_row, alpha_row, p_blk,
      w_blk, newSum_row, newOut_blk, vscale_read, vals_read, stack2_eq, stack4_eq, stack6_eq, side2_eq, side4_eq,
      side6_eq, stack2_blk, stack4_blk, stack6_blk, stack2_zero, stack4_zero, stack6_zero, side2_blk, side4_blk,
      side6_blk, pv2, pv4, pv6, Nat.reduceAdd, Nat.reduceMul, Nat.reduceLeDiff, Nat.reduceMod, Nat.reduceLT,
      Nat.reduceEqDiff]
    with_reducible exact (ld_maxArr i x0 x1 x2 x4 x7 _ _ _ y).symm)

end Cert.Ring
end
-- ==== Proof.NewSum.lean ====
/-
  The kernel's stores of the new sum: every one holds the new sums of its queries.
-/
module

public import proofs.«01_k».proof.Proof.Tiles
public import proofs.«01_k».proof.Proof.Update

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (i : grid0.Coords) (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)
  (x6 : Vec Ideal S1x1x3x96x768 .f32) (x7 : Vec Ideal S1x1x3x768 .f32) (x8 : Vec Ideal S1x1x3x768 .f32)

/-- The new sum's block. -/
def sumArr : S1x1x3x768.Idx → EReal := fun j => newSum i x0 x1 x2 x4 x7 x8 (j 2).val (j 3).val

theorem ld_sumArr (r b : Nat) (h) (y) : View.ld (Val := Elt Ideal) (e' := .f32) (sumArr i x0 x1 x2 x4 x7 x8)
    (Rect.unit (s := S1x1x3x768) ![0, 0, r, b] ![1, 1, 1, 128] h) y = row4 (newSum i x0 x1 x2 x4 x7 x8 r) b y := by
  pointwise [sumArr, row4]

set_option maxHeartbeats 16000000 in
/-- Its stores. -/
theorem sum_pieces (c : Dev nD) (i : grid0.Coords) (arg2 : Memref sig .tc .smem S2x24 .f32) (harg2 : arg2.IsWhole) (arg3 : Memref sig .tc .vmem S1x1x3x96x768 .fp8e4m3) (harg3 : arg3.IsWhole) (arg4 : Memref sig .tc .vmem S1x1x96x768 .fp8e4m3) (harg4 : arg4.IsWhole) (arg5 : Memref sig .tc .vmem S1x1x96x768 .fp8e4m3) (harg5 : arg5.IsWhole) (arg6 : Memref sig .tc .vmem S1x1x1x768 .f32) (harg6 : arg6.IsWhole) (arg7 : Memref sig .tc .vmem S1x1x1x768 .f32) (harg7 : arg7.IsWhole) (arg8 : Memref sig .tc .vmem S1x1x3x96x768 .f32) (harg8 : arg8.IsWhole) (arg9 : Memref sig .tc .vmem S1x1x3x768 .f32) (harg9 : arg9.IsWhole) (arg10 : Memref sig .tc .vmem S1x1x3x768 .f32) (harg10 : arg10.IsWhole) (arg11 : Memref sig .tc .vmem S1x1x3x96x768 .f32) (harg11 : arg11.IsWhole) (arg12 : Memref sig .tc .vmem S1x1x3x768 .f32) (harg12 : arg12.IsWhole) (arg13 : Memref sig .tc .vmem S1x1x3x768 .f32) (harg13 : arg13.IsWhole) (arg14 : Memref sig .tc .vmem S768x128 .fp8e4m3) (harg14 : arg14.IsWhole) (arg15 : Memref sig .tc .vmem S96x768 .bf16) (harg15 : arg15.IsWhole) (arg16 : Memref sig .tc .vmem S3x768x128 .f32) (harg16 : arg16.IsWhole) (arg17 : Memref sig .tc .vmem S768x128 .f32) (harg17 : arg17.IsWhole) (arg18 : Memref sig .tc .vmem S3x6x768x128 .f32) (harg18 : arg18.IsWhole)
    (x0 : Vec Ideal S2x24 .f32) (x1 : Vec Ideal S1x1x3x96x768 .fp8e4m3) (x2 : Vec Ideal S1x1x96x768 .fp8e4m3) (x3 : Vec Ideal S1x1x96x768 .fp8e4m3) (x4 : Vec Ideal S1x1x1x768 .f32) (x5 : Vec Ideal S1x1x1x768 .f32) (x6 : Vec Ideal S1x1x3x96x768 .f32) (x7 : Vec Ideal S1x1x3x768 .f32) (x8 : Vec Ideal S1x1x3x768 .f32)  :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8).2.2.1, ∀ y, p.2 y = View.ld (Val := Elt Ideal) (e' := .f32) (sumArr i x0 x1 x2 x4 x7 x8) p.1 y := by
  dsimp only [kernelRun0_A]
  simp only [List.forall_mem_cons, List.not_mem_nil, false_imp_iff, implies_true, and_true]
  and_intros <;> intro y <;>
   (simp only [
      cst_145, cst_205, cst_385, cst_81, cst_84, cst_87, r_100, r_103, r_105, r_106, r_107, r_108, r_109, r_110,
      r_112, r_116, r_118, r_13, r_14, r_16, r_17, r_18, r_20, r_22, r_23, r_24, r_25, r_27, r_28, r_29, r_31,
      r_32, r_34, r_36, r_37, r_38, r_41, r_44, r_45, r_48, r_49, r_52, r_53, r_54, r_55, r_56, r_58, r_59, r_60,
      r_62, r_63, r_64, r_65, r_66, r_67, r_69, r_71, r_72, r_73, r_76, r_79, r_81, r_82, r_84, r_85, r_86, r_88,
      r_89, r_90, r_91, r_93, r_96, r_97, r_98, v1016, v1019, v1042, v1044, v1046, v1048, v1049, v1050, v1053,
      v1057, v1058, v1059, v1060, v1061, v1062, v1066, v1067, v1068, v1069, v1070, v1071, v1072, v1095, v1105,
      v1106, v1107, v1108, v1109, v1110, v1111, v1112, v1116, v1117, v1119, v1120, v1121, v1122, v1123, v1130,
      v1131, v1132, v1133, v1134, v1137, v1138, v1141, v1145, v1146, v1147, v1150, v1154, v1155, v1156, v1157,
      v1160, v1164, v1165, v1166, v1167, v1168, v1169, v1170, v1192, v1202, v1204, v1205, v1206, v1207, v1208,
      v1209, v1213, v1214, v1216, v1217, v1218, v1219, v1220, v1224, v1225, v1227, v1228, v1229, v1230, v1231,
      v1237, v1238, v1239, v1240, v1241, v1244, v1267, v1269, v1271, v1273, v1274, v1275, v1278, v1282, v1283,
      v1284, v1287, v1291, v1292, v1293, v1294, v1297, v1305, v1315, v1340, v1350, v1361, v1365, v1366, v1367,
      v1368, v1372, v1373, v1374, v1375, v1376, v1377, v1378, v1379, v1383, v1384, v1386, v1387, v1388, v1389,
      v1390, v1397, v1398, v1399, v1400, v1401, v1404, v1405, v1408, v1412, v1413, v1414, v1417, v1421, v1422,
      v1423, v1424, v1427, v1431, v1432, v1433, v1434, v1437, v1441, v1442, v1443, v1444, v1445, v1446, v1447,
      v1451, v1452, v1453, v1454, v1455, v1456, v1457, v1461, v1462, v1479, v1489, v1500, v1501, v1502, v1503,
      v1504, v1505, v1506, v1507, v1511, v1512, v1514, v1515, v1516, v1517, v1518, v1522, v1523, v1525, v1526,
      v1527, v1528, v1529, v1533, v1534, v1536, v1537, v1538, v1539, v1540, v1546, v1547, v1548, v1549, v1550,
      v1553, v1576, v1578, v1580, v1582, v1583, v1584, v1585, v1586, v1587, v1588, v1592, v1609, v1631, v1639,
      v1662, v1663, v1664, v1665, v1666, v1667, v1668, v1669, v1670, v1674, v1675, v1677, v1678, v1679, v1680,
      v1681, v1687, v1688, v1689, v1690, v1691, v1694, v1717, v1719, v1721, v1723, v1724, v1725, v1728, v1732,
      v1733, v1734, v1735, v1736, v1737, v1741, v1742, v1743, v1744, v1745, v1746, v1747, v1748, v1770, v1780,
      v1782, v1783, v1784, v1785, v1786, v1787, v1791, v1792, v1794, v1795, v1796, v1797, v1798, v1805, v1806,
      v1807, v1808, v1809, v1812, v1813, v1816, v1820, v1821, v1822, v1825, v1829, v1830, v1831, v1832, v1835,
      v1839, v1840, v1841, v1842, v1843, v1844, v1845, v1867, v1877, v1882, v1883, v1884, v1888, v1889, v1890,
      v1891, v1892, v1893, v1894, v1895, v1899, v1900, v1902, v1903, v1904, v1905, v1906, v1912, v1913, v1914,
      v1915, v1916, v1919, v1942, v1944, v1946, v1948, v1949, v1950, v1953, v1957, v1958, v1959, v1962, v1966,
      v1967, v1968, v1969, v1972, v1980, v1990, v2015, v2025, v2036, v2047, v2058, v2100, v2129, v2154, v2164,
      v2175, v2186, v2197, v2208, v226, v227, v228, v229, v230, v231, v232, v233, v234, v235, v236, v237, v238,
      v259, v281, v289, v314, v324, v339, v340, v341, v344, v367, v369, v370, v371, v372, v373, v374, v375, v378,
      v382, v383, v384, v385, v386, v387, v391, v392, v393, v394, v395, v420, v430, v431, v432, v433, v434, v435,
      v436, v437, v441, v442, v444, v445, v446, v447, v448, v455, v456, v457, v458, v459, v462, v463, v466, v470,
      v471, v472, v475, v479, v480, v481, v482, v483, v484, v485, v489, v490, v491, v492, v493, v494, v517, v527,
      v528, v529, v530, v531, v532, v533, v534, v538, v539, v541, v542, v543, v544, v545, v549, v550, v552, v553,
      v554, v555, v556, v562, v563, v564, v565, v566, v569, v592, v594, v595, v596, v597, v598, v599, v600, v603,
      v607, v608, v609, v612, v616, v617, v618, v619, v622, v626, v627, v628, v629, v632, v636, v637, v638, v639,
      v640, v641, v642, v643, v647, v648, v649, v650, v651, v665, v675, v686, v687, v688, v689, v690, v691, v692,
      v693, v697, v698, v700, v701, v702, v703, v704, v708, v709, v711, v712, v713, v714, v715, v722, v723, v724,
      v725, v726, v729, v730, v733, v737, v738, v739, v742, v746, v747, v748, v749, v752, v756, v757, v758, v759,
      v762, v766, v767, v768, v769, v772, v776, v777, v778, v779, v780, v781, v782, v804, v814, v821, v825, v826,
      v827, v828, v829, v830, v831, v832, v836, v837, v839, v840, v841, v842, v843, v847, v848, v850, v851, v852,
      v853, v854, v858, v859, v861, v862, v863, v864, v865, v871, v872, v873, v874, v875, v878, v901, v903, v905,
      v907, v908, v909, v910, v911, v912, v913, v934, v956, v964, v989, v999, k0_pay30, k0_pay31, k0_pay32,
      k0_pay33, k0_pay35, k0_pay36, k0_pay37, k0_pay39, k0_pay40, k0_pay41, k0_pay43, k0_pay45, k0_pay46, k0_pay47,
      k0_pay48, k0_pay50, k0_pay51, k0_pay52, k0_pay53, k0_pay55, k0_pay69, k0_pay71, k0_pay72, k0_pay73, k0_pay74,
      k0_pay76, k0_pay77, k0_pay78, k0_pay93, k0_pay95, k0_pay96, k0_pay97, k0_pay98, k0_pay100, k0_pay101,
      k0_pay102, k0_pay130, k0_pay131, k0_pay132, k0_pay134, k0_pay135, k0_pay137, k0_pay138, k0_pay161, k0_pay162,
      k0_pay163, k0_pay164, k0_pay166, k0_pay167, k0_pay168, k0_pay170, k0_pay171, k0_pay191, k0_pay192, k0_pay193,
      k0_pay194, k0_pay196, k0_pay197, k0_pay199, k0_pay200, k0_pay201, k0_pay202, k0_pay204, k0_pay206, k0_pay207,
      k0_pay208, k0_pay209, k0_pay211, k0_pay212, k0_pay213, k0_pay215, k0_pay216, k0_pay230, k0_pay232, k0_pay233,
      k0_pay234, k0_pay235, k0_pay237, k0_pay238, k0_pay239, k0_pay255, k0_pay256, k0_pay257, k0_pay258, k0_pay260,
      k0_pay261, k0_pay262, k0_pay264, k0_pay284, k0_pay286, k0_pay288, k0_pay289, k0_pay290, k0_pay291, k0_pay293,
      k0_pay294, k0_pay296, k0_pay297, k0_pay299, k0_pay321, k0_pay322, k0_pay323, k0_pay324, k0_pay326, k0_pay327,
      k0_pay329, k0_pay330, k0_pay350, k0_pay351, k0_pay352, k0_pay353, k0_pay355, k0_pay356, k0_pay358, k0_pay359,
      k0_pay360, k0_pay362, k0_pay364, k0_pay365, k0_pay366, k0_pay367, k0_pay390, k0_pay391, k0_pay392, k0_pay393,
      k0_pay395, k0_pay396, k0_pay397, k0_pay399, k0_pay413, k0_pay414, k0_pay415, k0_pay416, k0_pay418, k0_pay419,
      k0_pay420, k0_pay422, k0_pay443, k0_pay445, k0_pay447, k0_pay448, k0_pay449, k0_pay450, k0_pay452, k0_pay453,
      k0_pay455, k0_pay456, k0_pay458, k0_pay459, k0_pay460, k0_pay461, k0_pay463, k0_pay464, k0_pay465, k0_pay467,
      k0_pay469, k0_pay470, k0_pay472, k0_pay473, k0_pay475, k0_pay477, k0_pay479, k0_pay480, k0_pay481, k0_pay482,
      k0_pay483, k0_pay485, k0_pay486, k0_pay488, k0_pay489, k0_pay491, k0_pay493, k0_pay495, k0_pay496, k0_pay498,
      k0_pay499, k0_pay500,
      keys_read, query_read, cast_query, padded_eq, pad_query, product_1, product_2, product_3, product_d,
      slice_blk, scale_read, mulf_scale, tile_diag, tile_below, reads, cast_of_blk4, octSup_blk, octSup_step,
      octSum_blk, octSum_step, row_octSup, row_octSum, stat_read, out_read, cast_of_row4, cast_row, cast_of_blk5,
      cast_blk5, named_log2e, named_ln2, mulf_row_const, mulf_row, addf_row, maximumf_row, subf_rows, exp2_row,
      mulf_row_blk, addf_blk, exp2_blk, subf_row, truncf_blk, top_row, max2_row, newMax_row, alpha_row, p_blk,
      w_blk, newSum_row, newOut_blk, vscale_read, vals_read, stack2_eq, stack4_eq, stack6_eq, side2_eq, side4_eq,
      side6_eq, stack2_blk, stack4_blk, stack6_blk, stack2_zero, stack4_zero, stack6_zero, side2_blk, side4_blk,
      side6_blk, pv2, pv4, pv6, Nat.reduceAdd, Nat.reduceMul, Nat.reduceLeDiff, Nat.reduceMod, Nat.reduceLT,
      Nat.reduceEqDiff]
    with_reducible exact (ld_sumArr i x0 x1 x2 x4 x7 x8 _ _ _ y).symm)

end Cert.Ring
end
-- ==== Proof.NewOut.lean ====
/-
  The kernel's stores of the new output: every one holds the new outputs of its queries.
-/
module

public import proofs.«01_k».proof.Proof.Tiles
public import proofs.«01_k».proof.Proof.Update

@[expose] public section

set_option maxRecDepth 16384

noncomputable section

namespace Cert.Ring

open Idealize.ShloMosaic Idealize.ShloMosaic.Pointwise
open Cert.KernelIdeal Cert.KernelIdeal.Gen Cert.KernelIdeal.Gen.kernelRun0_A.sl

variable (i : grid0.Coords) (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)
  (x6 : Vec Ideal S1x1x3x96x768 .f32) (x7 : Vec Ideal S1x1x3x768 .f32) (x8 : Vec Ideal S1x1x3x768 .f32)

/-- The new output's block. -/
def outArr : S1x1x3x96x768.Idx → EReal := fun j => newOut i x0 x1 x2 x3 x4 x5 x6 x7 (j 2).val (j 3).val (j 4).val

theorem ld_outArr (r b : Nat) (h) (y) : View.ld (Val := Elt Ideal) (e' := .f32) (outArr i x0 x1 x2 x3 x4 x5 x6 x7)
    (Rect.unit (s := S1x1x3x96x768) ![0, 0, r, 0, b] ![1, 1, 1, 96, 128] h) y = blk5 (newOut i x0 x1 x2 x3 x4 x5 x6 x7 r) b y := by
  pointwise [outArr, blk5]

set_option maxHeartbeats 16000000 in
/-- Its stores. -/
theorem out_pieces (c : Dev nD) (i : grid0.Coords) (arg2 : Memref sig .tc .smem S2x24 .f32) (harg2 : arg2.IsWhole) (arg3 : Memref sig .tc .vmem S1x1x3x96x768 .fp8e4m3) (harg3 : arg3.IsWhole) (arg4 : Memref sig .tc .vmem S1x1x96x768 .fp8e4m3) (harg4 : arg4.IsWhole) (arg5 : Memref sig .tc .vmem S1x1x96x768 .fp8e4m3) (harg5 : arg5.IsWhole) (arg6 : Memref sig .tc .vmem S1x1x1x768 .f32) (harg6 : arg6.IsWhole) (arg7 : Memref sig .tc .vmem S1x1x1x768 .f32) (harg7 : arg7.IsWhole) (arg8 : Memref sig .tc .vmem S1x1x3x96x768 .f32) (harg8 : arg8.IsWhole) (arg9 : Memref sig .tc .vmem S1x1x3x768 .f32) (harg9 : arg9.IsWhole) (arg10 : Memref sig .tc .vmem S1x1x3x768 .f32) (harg10 : arg10.IsWhole) (arg11 : Memref sig .tc .vmem S1x1x3x96x768 .f32) (harg11 : arg11.IsWhole) (arg12 : Memref sig .tc .vmem S1x1x3x768 .f32) (harg12 : arg12.IsWhole) (arg13 : Memref sig .tc .vmem S1x1x3x768 .f32) (harg13 : arg13.IsWhole) (arg14 : Memref sig .tc .vmem S768x128 .fp8e4m3) (harg14 : arg14.IsWhole) (arg15 : Memref sig .tc .vmem S96x768 .bf16) (harg15 : arg15.IsWhole) (arg16 : Memref sig .tc .vmem S3x768x128 .f32) (harg16 : arg16.IsWhole) (arg17 : Memref sig .tc .vmem S768x128 .f32) (harg17 : arg17.IsWhole) (arg18 : Memref sig .tc .vmem S3x6x768x128 .f32) (harg18 : arg18.IsWhole)
    (x0 : Vec Ideal S2x24 .f32) (x1 : Vec Ideal S1x1x3x96x768 .fp8e4m3) (x2 : Vec Ideal S1x1x96x768 .fp8e4m3) (x3 : Vec Ideal S1x1x96x768 .fp8e4m3) (x4 : Vec Ideal S1x1x1x768 .f32) (x5 : Vec Ideal S1x1x1x768 .f32) (x6 : Vec Ideal S1x1x3x96x768 .f32) (x7 : Vec Ideal S1x1x3x768 .f32) (x8 : Vec Ideal S1x1x3x768 .f32)  :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8).1, ∀ y, p.2 y = View.ld (Val := Elt Ideal) (e' := .f32) (outArr i x0 x1 x2 x3 x4 x5 x6 x7) p.1 y := by
  dsimp only [kernelRun0_A]
  simp only [List.forall_mem_cons, List.not_mem_nil, false_imp_iff, implies_true, and_true]
  and_intros <;> intro y <;>
   (simp only [
      cst, cst_145, cst_176, cst_205, cst_385, cst_81, cst_84, cst_87, r_101, r_102, r_104, r_106, r_107, r_108,
      r_109, r_110, r_111, r_113, r_114, r_115, r_117, r_118, r_119, r_13, r_15, r_17, r_18, r_19, r_21, r_23,
      r_24, r_26, r_27, r_28, r_30, r_31, r_32, r_33, r_35, r_36, r_37, r_39, r_40, r_42, r_43, r_48, r_49, r_50,
      r_51, r_54, r_55, r_57, r_58, r_59, r_61, r_62, r_63, r_64, r_65, r_66, r_67, r_68, r_70, r_71, r_72, r_73,
      r_74, r_75, r_77, r_78, r_81, r_82, r_84, r_85, r_87, r_88, r_89, r_90, r_92, r_93, r_96, r_97, r_98, r_99,
      v1020, v1022, v1024, v1025, v1026, v1027, v1028, v1031, v1033, v1034, v1035, v1036, v1037, v1040, v1042,
      v1044, v1046, v1048, v1049, v1050, v1053, v1057, v1058, v1059, v1060, v1061, v1062, v1066, v1067, v1068,
      v1069, v1070, v1071, v1072, v1095, v1105, v1106, v1107, v1108, v1109, v1114, v1115, v1116, v1117, v1119,
      v1120, v1125, v1126, v1128, v1138, v1141, v1145, v1146, v1147, v1150, v1154, v1155, v1156, v1157, v1160,
      v1164, v1165, v1166, v1167, v1168, v1169, v1170, v1192, v1202, v1204, v1205, v1206, v1211, v1212, v1213,
      v1214, v1216, v1217, v1222, v1223, v1224, v1225, v1227, v1228, v1233, v1234, v1235, v1245, v1247, v1249,
      v1250, v1251, v1252, v1253, v1256, v1258, v1259, v1260, v1261, v1262, v1265, v1267, v1269, v1271, v1273,
      v1274, v1275, v1278, v1282, v1283, v1284, v1287, v1291, v1292, v1293, v1294, v1297, v1305, v1315, v1340,
      v1350, v1361, v1365, v1370, v1371, v1372, v1373, v1374, v1375, v1376, v1381, v1382, v1383, v1384, v1386,
      v1387, v1392, v1393, v1395, v1405, v1408, v1412, v1413, v1414, v1417, v1421, v1422, v1423, v1424, v1427,
      v1431, v1432, v1433, v1434, v1437, v1441, v1442, v1443, v1444, v1445, v1446, v1447, v1451, v1452, v1453,
      v1454, v1455, v1456, v1457, v1461, v1462, v1479, v1489, v1498, v1499, v1500, v1501, v1502, v1503, v1504,
      v1509, v1510, v1511, v1512, v1514, v1515, v1520, v1521, v1522, v1523, v1525, v1526, v1531, v1532, v1533,
      v1534, v1536, v1537, v1542, v1543, v1544, v1554, v1556, v1558, v1559, v1560, v1561, v1562, v1565, v1567,
      v1568, v1569, v1570, v1571, v1574, v1576, v1578, v1580, v1582, v1583, v1584, v1585, v1586, v1587, v1588,
      v1592, v1609, v1631, v1639, v1662, v1663, v1664, v1665, v1666, v1667, v1668, v1671, v1672, v1673, v1674,
      v1675, v1677, v1678, v1683, v1684, v1685, v1695, v1697, v1699, v1700, v1701, v1702, v1703, v1706, v1708,
      v1709, v1710, v1711, v1712, v1715, v1717, v1719, v1721, v1723, v1724, v1725, v1728, v1732, v1733, v1734,
      v1735, v1736, v1737, v1741, v1742, v1743, v1744, v1745, v1746, v1747, v1748, v1770, v1780, v1782, v1783,
      v1784, v1789, v1790, v1791, v1792, v1794, v1795, v1800, v1801, v1803, v1813, v1816, v1820, v1821, v1822,
      v1825, v1829, v1830, v1831, v1832, v1835, v1839, v1840, v1841, v1842, v1843, v1844, v1845, v1867, v1877,
      v1886, v1887, v1888, v1889, v1890, v1891, v1892, v1897, v1898, v1899, v1900, v1902, v1903, v1908, v1909,
      v1910, v1920, v1922, v1924, v1925, v1926, v1927, v1928, v1931, v1933, v1934, v1935, v1936, v1937, v1940,
      v1942, v1944, v1946, v1948, v1949, v1950, v1953, v1957, v1958, v1959, v1962, v1966, v1967, v1968, v1969,
      v1972, v1980, v1990, v2015, v2025, v2036, v2044, v2047, v2055, v2058, v2066, v2100, v2129, v2154, v2164,
      v2175, v2186, v2197, v2208, v2216, v2230, v2241, v226, v227, v228, v229, v230, v231, v232, v233, v234, v235,
      v236, v237, v238, v259, v266, v281, v289, v314, v324, v332, v345, v346, v347, v349, v350, v351, v352, v353,
      v356, v358, v359, v360, v361, v362, v365, v367, v369, v370, v371, v372, v373, v374, v375, v378, v382, v383,
      v384, v385, v386, v387, v391, v392, v393, v394, v395, v420, v430, v431, v432, v433, v434, v438, v439, v440,
      v441, v442, v444, v445, v449, v450, v451, v452, v453, v463, v466, v470, v471, v472, v475, v479, v480, v481,
      v482, v483, v484, v485, v489, v490, v491, v492, v493, v494, v517, v527, v528, v529, v530, v531, v536, v537,
      v538, v539, v541, v542, v547, v548, v549, v550, v552, v553, v557, v558, v559, v560, v570, v571, v572, v574,
      v575, v576, v577, v578, v581, v583, v584, v585, v586, v587, v590, v592, v594, v595, v596, v597, v598, v599,
      v600, v603, v607, v608, v609, v612, v616, v617, v618, v619, v622, v626, v627, v628, v629, v632, v636, v637,
      v638, v639, v640, v641, v642, v643, v647, v648, v649, v650, v651, v665, v675, v686, v687, v688, v689, v690,
      v695, v696, v697, v698, v700, v701, v706, v707, v708, v709, v711, v712, v716, v717, v718, v720, v730, v733,
      v737, v738, v739, v742, v746, v747, v748, v749, v752, v756, v757, v758, v759, v762, v766, v767, v768, v769,
      v772, v776, v777, v778, v779, v780, v781, v782, v804, v814, v823, v824, v825, v826, v827, v828, v829, v834,
      v835, v836, v837, v839, v840, v845, v846, v847, v848, v850, v851, v856, v857, v858, v859, v861, v862, v866,
      v867, v868, v869, v879, v880, v881, v883, v884, v885, v886, v887, v890, v892, v893, v894, v895, v896, v899,
      v901, v903, v905, v907, v908, v909, v910, v911, v912, v913, v934, v956, v964, v989, v999, k0_pay1, k0_pay30,
      k0_pay31, k0_pay32, k0_pay33, k0_pay35, k0_pay36, k0_pay38, k0_pay41, k0_pay43, k0_pay45, k0_pay46, k0_pay47,
      k0_pay48, k0_pay50, k0_pay51, k0_pay52, k0_pay54, k0_pay69, k0_pay71, k0_pay72, k0_pay73, k0_pay74, k0_pay76,
      k0_pay77, k0_pay79, k0_pay93, k0_pay95, k0_pay96, k0_pay97, k0_pay98, k0_pay100, k0_pay101, k0_pay103,
      k0_pay130, k0_pay131, k0_pay132, k0_pay134, k0_pay135, k0_pay136, k0_pay137, k0_pay139, k0_pay161, k0_pay162,
      k0_pay163, k0_pay164, k0_pay166, k0_pay167, k0_pay169, k0_pay170, k0_pay191, k0_pay192, k0_pay193, k0_pay194,
      k0_pay196, k0_pay197, k0_pay198, k0_pay202, k0_pay204, k0_pay206, k0_pay207, k0_pay208, k0_pay209, k0_pay211,
      k0_pay212, k0_pay213, k0_pay214, k0_pay230, k0_pay232, k0_pay233, k0_pay234, k0_pay235, k0_pay237, k0_pay238,
      k0_pay240, k0_pay255, k0_pay256, k0_pay257, k0_pay258, k0_pay260, k0_pay261, k0_pay263, k0_pay264, k0_pay284,
      k0_pay286, k0_pay288, k0_pay289, k0_pay290, k0_pay291, k0_pay293, k0_pay294, k0_pay295, k0_pay296, k0_pay298,
      k0_pay299, k0_pay321, k0_pay322, k0_pay323, k0_pay324, k0_pay326, k0_pay327, k0_pay328, k0_pay329, k0_pay350,
      k0_pay351, k0_pay352, k0_pay353, k0_pay355, k0_pay356, k0_pay357, k0_pay360, k0_pay362, k0_pay364, k0_pay365,
      k0_pay366, k0_pay367, k0_pay390, k0_pay391, k0_pay392, k0_pay393, k0_pay395, k0_pay396, k0_pay398, k0_pay399,
      k0_pay413, k0_pay414, k0_pay415, k0_pay416, k0_pay418, k0_pay419, k0_pay421, k0_pay422, k0_pay443, k0_pay445,
      k0_pay447, k0_pay448, k0_pay449, k0_pay450, k0_pay452, k0_pay453, k0_pay454, k0_pay455, k0_pay457, k0_pay458,
      k0_pay460, k0_pay461, k0_pay462, k0_pay465, k0_pay467, k0_pay469, k0_pay470, k0_pay472, k0_pay473, k0_pay475,
      k0_pay477, k0_pay479, k0_pay480, k0_pay481, k0_pay482, k0_pay483, k0_pay485, k0_pay486, k0_pay487, k0_pay488,
      k0_pay490, k0_pay491, k0_pay492, k0_pay493, k0_pay494, k0_pay495, k0_pay497, k0_pay498, k0_pay499, k0_pay501,
      k0_pay502,
      keys_read, query_read, cast_query, padded_eq, pad_query, product_1, product_2, product_3, product_d,
      slice_blk, scale_read, mulf_scale, tile_diag, tile_below, reads, cast_of_blk4, octSup_blk, octSup_step,
      octSum_blk, octSum_step, row_octSup, row_octSum, stat_read, out_read, cast_of_row4, cast_row, cast_of_blk5,
      cast_blk5, named_log2e, named_ln2, mulf_row_const, mulf_row, addf_row, maximumf_row, subf_rows, exp2_row,
      mulf_row_blk, addf_blk, exp2_blk, subf_row, truncf_blk, top_row, max2_row, newMax_row, alpha_row, p_blk,
      w_blk, newSum_row, newOut_blk, vscale_read, vals_read, stack2_eq, stack4_eq, stack6_eq, side2_eq, side4_eq,
      side6_eq, stack2_blk, stack4_blk, stack6_blk, stack2_zero, stack4_zero, stack6_zero, side2_blk, side4_blk,
      side6_blk, pv2, pv4, pv6, Nat.reduceAdd, Nat.reduceMul, Nat.reduceLeDiff, Nat.reduceMod, Nat.reduceLT,
      Nat.reduceEqDiff]
    with_reducible exact (ld_outArr i x0 x1 x2 x3 x4 x5 x6 x7 _ _ _ y).symm)

end Cert.Ring
end
-- ==== Proof.Points.lean ====
/-
  What the output blocks hold after the body at each grid point, as functions of the point's input blocks.
-/
module

public import proofs.«01_k».proof.Proof.Gen.KernelIdeal.Frame
public import proofs.«01_k».proof.Proof.NewMax
public import proofs.«01_k».proof.Proof.NewSum
public import proofs.«01_k».proof.Proof.NewOut

@[expose] public section

noncomputable section

namespace Cert.Ring

open Idealize.ShloMosaic Idealize.ShloMosaic.Pointwise Idealize.ShloMosaic.TcCoe
open Cert.KernelIdeal Cert.KernelIdeal.Gen

variable (m : (ℓ : Loc nD τ sig) → Buf (Elt Ideal) ℓ)

/-- The new output's block. -/
theorem out_at (c : Dev nD) (t : Fin cfg0.N) : (outsAt0 (F := Ideal) m c t).1 = outArr (grid0.coords t) (iblk m c 0 t) (iblk m c 1 t) (iblk m c 2 t) (iblk m c 3 t) (iblk m c 4 t) (iblk m c 5 t) (iblk m c 6 t) (iblk m c 7 t) := by
  unfold outsAt0
  dsimp only
  unfold out0_A_9
  rw [View.read_writes_junk_eq_canon]
  funext y
  exact View.canon_apply_of_pieces _ _ (out_pieces _ _ _ _ _ _ _ _ _ _ _ _ _ _ _ _ _ _ _ _ _ _ _ _ _ _ _ _ _ _ _ _ _ _ _ _ _ _ _ _ _ _ _ _ _) y
    (cover0_A_9 _ _ _ _ _ _ _ _ _ _ _ _ _ _ _ _ _ _ _ _ _ _ _ _ _ _ _ _ _ _ _ _ _ _ _ _ _ _ _ _ _ _ _ _ _ y)

/-- The new maximum's block. -/
theorem max_at (c : Dev nD) (t : Fin cfg0.N) : (outsAt0 (F := Ideal) m c t).2.1 = maxArr (grid0.coords t) (iblk m c 0 t) (iblk m c 1 t) (iblk m c 2 t) (iblk m c 4 t) (iblk m c 7 t) := by
  unfold outsAt0
  dsimp only
  unfold out0_A_10
  rw [View.read_writes_junk_eq_canon]
  funext y
  exact View.canon_apply_of_pieces _ _ (max_pieces _ _ _ _ _ _ _ _ _ _ _ _ _ _ _ _ _ _ _ _ _ _ _ _ _ _ _ _ _ _ _ _ _ _ _ _ _ _ _ _ _ _ _ _ _) y
    (cover0_A_10 _ _ _ _ _ _ _ _ _ _ _ _ _ _ _ _ _ _ _ _ _ _ _ _ _ _ _ _ _ _ _ _ _ _ _ _ _ _ _ _ _ _ _ _ _ y)

/-- The new sum's block. -/
theorem sum_at (c : Dev nD) (t : Fin cfg0.N) : (outsAt0 (F := Ideal) m c t).2.2 = sumArr (grid0.coords t) (iblk m c 0 t) (iblk m c 1 t) (iblk m c 2 t) (iblk m c 4 t) (iblk m c 7 t) (iblk m c 8 t) := by
  unfold outsAt0
  dsimp only
  unfold out0_A_11
  rw [View.read_writes_junk_eq_canon]
  funext y
  exact View.canon_apply_of_pieces _ _ (sum_pieces _ _ _ _ _ _ _ _ _ _ _ _ _ _ _ _ _ _ _ _ _ _ _ _ _ _ _ _ _ _ _ _ _ _ _ _ _ _ _ _ _ _ _ _ _) y
    (cover0_A_11 _ _ _ _ _ _ _ _ _ _ _ _ _ _ _ _ _ _ _ _ _ _ _ _ _ _ _ _ _ _ _ _ _ _ _ _ _ _ _ _ _ _ _ _ _ y)

end Cert.Ring
end
-- ==== Proof.Spec.lean ====
/-
  One step of the online softmax for one query, as a function of the query's old maximum, sum and output and of its scores
  against the 768 keys: what both programs are shown to compute.
-/
module

public import proofs.«01_k».proof.Proof.Scalar

@[expose] public section

noncomputable section

namespace Cert.Ring

open Idealize.ShloMosaic

/-- The new maximum. -/
def specMax (m : EReal) (s : Fin 768 → EReal) : EReal := max m (Finset.univ.sup s)

/-- The new sum: the old one rescaled, plus the weights. -/
def specSum (m l : EReal) (s : Fin 768 → EReal) : EReal :=
  Ideal.exp (m - specMax m s) * l + ∑ j, Ideal.exp (s j - specMax m s)

/-- The new output: the old one rescaled, plus the weighted values (`v` with scales `u`). -/
def specOut (m o : EReal) (s u v : Fin 768 → EReal) : EReal :=
  Ideal.exp (m - specMax m s) * o + ∑ j, Ideal.exp (s j - specMax m s) * u j * v j

/-- The supremum over the first 768 numbers, scaled by `log₂ e`. -/
theorem sup_range_scaled (f : Nat → EReal) (s : Fin 768 → EReal) (h : ∀ j : Fin 768, f j.val = s j * L2E) :
    (Finset.range 768).sup f = Finset.univ.sup s * L2E := by
  rw [Finset.comp_sup_eq_sup_comp (fun x : EReal => x * L2E) (fun x y => (max_mul_L2E x y).symm) bot_mul_L2E]
  refine le_antisymm (Finset.sup_le fun j hj => ?_) (Finset.sup_le fun j _ => ?_)
  · have hj : j < 768 := Finset.mem_range.1 hj
    rw [h ⟨j, hj⟩]
    exact Finset.le_sup (f := (fun x : EReal => x * L2E) ∘ s) (Finset.mem_univ _)
  · show s j * L2E ≤ _
    rw [← h j]
    exact Finset.le_sup (f := f) (Finset.mem_range.2 j.isLt)

end Cert.Ring
end
-- ==== Proof.Closed.lean ====
/-
  What the kernel's body computes at one grid point is one step of the online softmax: the base-two exponentials of scores
  times `log₂ e` are exponentials of scores.
-/
module

public import proofs.«01_k».proof.Proof.Update
public import proofs.«01_k».proof.Proof.Spec

@[expose] public section

noncomputable section

namespace Cert.Ring

open Idealize.ShloMosaic Idealize.ShloMosaic.Pointwise
open Cert.KernelIdeal Cert.KernelIdeal.Gen

variable (i : grid0.Coords) (x0 : Vec Ideal S2x24 .f32) (x1 : Vec Ideal S1x1x3x96x768 .fp8e4m3) (x2 : Vec Ideal S1x1x96x768 .fp8e4m3)
  (x3 : Vec Ideal S1x1x96x768 .fp8e4m3) (x4 : Vec Ideal S1x1x1x768 .f32) (x5 : Vec Ideal S1x1x1x768 .f32)
  (x6 : Vec Ideal S1x1x3x96x768 .f32) (x7 : Vec Ideal S1x1x3x768 .f32) (x8 : Vec Ideal S1x1x3x768 .f32)
  (r : Fin 3) (q : Fin 768)

/-- The scores of one query of the point's block. -/
def blkScore (j : Fin 768) : EReal := if j.val ≤ q.val then dotKQ x1 x2 r q j * factor i x0 x4 r j else ⊥

theorem ofNat_self {n : Nat} [NeZero n] (k : Fin n) : Fin.ofNat n k.val = k := Fin.ext (Nat.mod_eq_of_lt k.isLt)

theorem scoreN_eq (j : Fin 768) : scoreN i x0 x1 x2 x4 r.val j.val q.val = blkScore i x0 x1 x2 x4 r q j * L2E := by
  unfold scoreN rawN dotN scaleN blkScore
  simp only [ofNat_self]
  split
  · rw [mul_assoc]
  · rw [bot_mul_L2E]

theorem topN_eq : topN i x0 x1 x2 x4 r.val q.val = Finset.univ.sup (blkScore i x0 x1 x2 x4 r q) * L2E :=
  sup_range_scaled _ _ (scoreN_eq i x0 x1 x2 x4 r q)

theorem statN_eq : statN x7 r.val q.val = x7 (ix4 (0 : Fin 1) (0 : Fin 1) r q) := by unfold statN; simp only [ofNat_self]

/-- The new maximum. -/
theorem newMax_eq : newMax i x0 x1 x2 x4 x7 r.val q.val
    = specMax (x7 (ix4 (0 : Fin 1) (0 : Fin 1) r q)) (blkScore i x0 x1 x2 x4 r q) := by
  unfold newMax specMax
  rw [topN_eq, statN_eq, mul_L2E_mul_LN2]

theorem max2N_eq : max2N i x0 x1 x2 x4 x7 r.val q.val
    = specMax (x7 (ix4 (0 : Fin 1) (0 : Fin 1) r q)) (blkScore i x0 x1 x2 x4 r q) * L2E := by
  unfold max2N specMax
  rw [topN_eq, statN_eq, max_mul_L2E]

theorem alphaN_eq : alphaN i x0 x1 x2 x4 x7 r.val q.val = Ideal.exp (x7 (ix4 (0 : Fin 1) (0 : Fin 1) r q)
    - specMax (x7 (ix4 (0 : Fin 1) (0 : Fin 1) r q)) (blkScore i x0 x1 x2 x4 r q)) := by
  unfold alphaN
  rw [max2N_eq, statN_eq, exp2_sub]

theorem pN_eq (j : Fin 768) : pN i x0 x1 x2 x4 x7 r.val j.val q.val = Ideal.exp (blkScore i x0 x1 x2 x4 r q j
    - specMax (x7 (ix4 (0 : Fin 1) (0 : Fin 1) r q)) (blkScore i x0 x1 x2 x4 r q)) := by
  unfold pN
  rw [max2N_eq, scoreN_eq, exp2_sub]

/-- The new sum. -/
theorem newSum_eq : newSum i x0 x1 x2 x4 x7 x8 r.val q.val
    = specSum (x7 (ix4 (0 : Fin 1) (0 : Fin 1) r q)) (x8 (ix4 (0 : Fin 1) (0 : Fin 1) r q)) (blkScore i x0 x1 x2 x4 r q) := by
  unfold newSum specSum
  rw [alphaN_eq, statN_eq x8, Finset.sum_range]
  simp only [pN_eq]

/-- The new output. -/
theorem newOut_eq (d : Fin 96) : newOut i x0 x1 x2 x3 x4 x5 x6 x7 r.val d.val q.val
    = specOut (x7 (ix4 (0 : Fin 1) (0 : Fin 1) r q)) (x6 (ix5 (0 : Fin 1) (0 : Fin 1) r d q)) (blkScore i x0 x1 x2 x4 r q)
      (fun j => x5 (ix4 (0 : Fin 1) (0 : Fin 1) (0 : Fin 1) j)) (fun j => x3 (ix4 (0 : Fin 1) (0 : Fin 1) d j)) := by
  unfold newOut specOut pvN outN wN valN vscN
  rw [alphaN_eq, Finset.sum_range]
  simp only [pN_eq, ofNat_self]
  congr 1
  exact Finset.sum_congr rfl fun j _ => mul_comm _ _

end Cert.Ring
end
-- ==== Proof.Inputs.lean ====
/-
  The input blocks of each grid point, as entries of the arguments: point `(b, g)` works on batch entry `b` and key/value
  head `g`.
-/
module

public import proofs.«01_k».proof.Proof.Gen.KernelIdeal.Frame
public import proofs.«01_k».proof.Proof.Block
public import Idealize.ShloMosaic.Lib.StableHlo.ReadAt
public import Idealize.ShloMosaic.Lib.Pipeline.ValueKit.Geometry

@[expose] public section

noncomputable section

namespace Cert.Ring

open Idealize.ShloMosaic Idealize.ShloMosaic.Pointwise Idealize.ShloMosaic.TcCoe Idealize.ShloMosaic.StableHlo
open Cert.KernelIdeal Cert.KernelIdeal.Gen

variable (m : (ℓ : Loc nD τ sig) → Buf (Elt Ideal) ℓ) (c : Dev nD)

theorem headIx_eq (g : Fin 8) (r : Fin 3) (h : g.val * 3 + r.val < 24) : (⟨g.val * 3 + r.val, h⟩ : Fin 24) = headIx g r :=
  Fin.ext (congrArg (· + r.val) (Nat.mul_comm _ _))

/-! ## The arrays that the kernel's windows stage -/

theorem V_q (b : Fin 2) (g : Fin 8) (r : Fin 3) (d : Fin 96) (q : Fin 768) :
    V m c main_v1 (ix5 b g r d q) = m ((c.tc : Thread nD τ).loc main_arg0) (ix4 b q (headIx g r) d) := by
  unfold V V0
  after_reads_at
  simp only [headIx_eq]

theorem V_k (b : Fin 2) (g : Fin 8) (d : Fin 96) (j : Fin 768) :
    V m c main_v2 (ix4 b g d j) = m ((c.tc : Thread nD τ).loc main_arg2) (ix4 b j g d) := by
  unfold V V0
  after_reads_at

theorem V_v (b : Fin 2) (g : Fin 8) (d : Fin 96) (j : Fin 768) :
    V m c main_v3 (ix4 b g d j) = m ((c.tc : Thread nD τ).loc main_arg4) (ix4 b j g d) := by
  unfold V V0
  after_reads_at

theorem V_ks (b : Fin 2) (g : Fin 8) (j : Fin 768) :
    V m c main_v7 (ix4 b g (0 : Fin 1) j) = m ((c.tc : Thread nD τ).loc main_arg3) (ix3 b j g) := by
  unfold V V0
  after_reads_at

theorem V_vs (b : Fin 2) (g : Fin 8) (j : Fin 768) :
    V m c main_v9 (ix4 b g (0 : Fin 1) j) = m ((c.tc : Thread nD τ).loc main_arg5) (ix3 b j g) := by
  unfold V V0
  after_reads_at

theorem V_o (b : Fin 2) (g : Fin 8) (r : Fin 3) (d : Fin 96) (q : Fin 768) :
    V m c main_v5 (ix5 b g r d q) = m ((c.tc : Thread nD τ).loc main_arg6) (ix4 b q (headIx g r) d) := by
  unfold V V0
  after_reads_at
  simp only [headIx_eq]

theorem V_m (b : Fin 2) (g : Fin 8) (r : Fin 3) (q : Fin 768) :
    V m c main_v10 (ix4 b g r q) = m ((c.tc : Thread nD τ).loc main_arg7) (ix3 b (headIx g r) q) := by
  unfold V V0
  after_reads_at
  simp only [headIx_eq]

theorem V_l (b : Fin 2) (g : Fin 8) (r : Fin 3) (q : Fin 768) :
    V m c main_v11 (ix4 b g r q) = m ((c.tc : Thread nD τ).loc main_arg8) (ix3 b (headIx g r) q) := by
  unfold V V0
  after_reads_at
  simp only [headIx_eq]

/-! ## The blocks -/

/-- A grid point's batch entry. -/
def ptB (t : Fin cfg0.N) : Fin 2 := grid0.coords t 0
/-- A grid point's key/value head. -/
def ptG (t : Fin cfg0.N) : Fin 8 := grid0.coords t 1

theorem word_b (t : Fin cfg0.N) : (BitVec.ofNat 32 (grid0.coords t 0).val).toNat = (ptB t).val := by
  rw [BitVec.toNat_ofNat]
  exact Nat.mod_eq_of_lt (lt_trans (ptB t).isLt (by decide))
theorem word_g (t : Fin cfg0.N) : (BitVec.ofNat 32 (grid0.coords t 1).val).toNat = (ptG t).val := by
  rw [BitVec.toNat_ofNat]
  exact Nat.mod_eq_of_lt (lt_trans (ptG t).isLt (by decide))

theorem index_1 (t : Fin cfg0.N) : win0_1.index t = ![(ptB t).val, (ptG t).val, 0, 0, 0] :=
  (rfl : win0_1.index t = ![(BitVec.ofNat 32 (grid0.coords t 0).val).toNat, (BitVec.ofNat 32 (grid0.coords t 1).val).toNat, 0, 0, 0]).trans
    (congrArg₂ (fun a b : Nat => (![a, b, 0, 0, 0] : Fin 5 → Nat)) (word_b t) (word_g t))
theorem index_6 (t : Fin cfg0.N) : win0_6.index t = ![(ptB t).val, (ptG t).val, 0, 0, 0] :=
  (rfl : win0_6.index t = ![(BitVec.ofNat 32 (grid0.coords t 0).val).toNat, (BitVec.ofNat 32 (grid0.coords t 1).val).toNat, 0, 0, 0]).trans
    (congrArg₂ (fun a b : Nat => (![a, b, 0, 0, 0] : Fin 5 → Nat)) (word_b t) (word_g t))
theorem index_9 (t : Fin cfg0.N) : win0_9.index t = ![(ptB t).val, (ptG t).val, 0, 0, 0] :=
  (rfl : win0_9.index t = ![(BitVec.ofNat 32 (grid0.coords t 0).val).toNat, (BitVec.ofNat 32 (grid0.coords t 1).val).toNat, 0, 0, 0]).trans
    (congrArg₂ (fun a b : Nat => (![a, b, 0, 0, 0] : Fin 5 → Nat)) (word_b t) (word_g t))
theorem index_2 (t : Fin cfg0.N) : win0_2.index t = ![(ptB t).val, (ptG t).val, 0, 0] :=
  (rfl : win0_2.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_3 (t : Fin cfg0.N) : win0_3.index t = ![(ptB t).val, (ptG t).val, 0, 0] :=
  (rfl : win0_3.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_4 (t : Fin cfg0.N) : win0_4.index t = ![(ptB t).val, (ptG t).val, 0, 0] :=
  (rfl : win0_4.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_5 (t : Fin cfg0.N) : win0_5.index t = ![(ptB t).val, (ptG t).val, 0, 0] :=
  (rfl : win0_5.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_7 (t : Fin cfg0.N) : win0_7.index t = ![(ptB t).val, (ptG t).val, 0, 0] :=
  (rfl : win0_7.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_8 (t : Fin cfg0.N) : win0_8.index t = ![(ptB t).val, (ptG t).val, 0, 0] :=
  (rfl : win0_8.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_10 (t : Fin cfg0.N) : win0_10.index t = ![(ptB t).val, (ptG t).val, 0, 0] :=
  (rfl : win0_10.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))
theorem index_11 (t : Fin cfg0.N) : win0_11.index t = ![(ptB t).val, (ptG t).val, 0, 0] :=
  (rfl : win0_11.index t = ![(BitVec.ofNat 32 (grid0.coords t 0).val).toNat, (BitVec.ofNat 32 (grid0.coords t 1).val).toNat, 0, 0]).trans
    (congrArg₂ (fun a b : Nat => (![a, b, 0, 0] : Fin 4 → Nat)) (word_b t) (word_g t))

theorem blk_qs (t : Fin cfg0.N) (b : Fin 2) (h : Fin 24) :
    iblk m c 0 t (ix2 b h) = m ((c.tc : Thread nD τ).loc main_arg1) (ix2 b h) := by
  blk_simp [iblk]
  rw [← V_main_arg1 m c]
  refine congrArg (V m c main_arg1) (funext fun a => Fin.ext ?_)
  fin_cases a <;> blk_simp <;> exact Nat.zero_add _

theorem blk_q (t : Fin cfg0.N) (r : Fin 3) (d : Fin 96) (q : Fin 768) :
    iblk m c 1 t (ix5 (0 : Fin 1) (0 : Fin 1) r d q) = m ((c.tc : Thread nD τ).loc main_arg0) (ix4 (ptB t) q (headIx (ptG t) r) d) := by
  refine Eq.trans ?_ (V_q m c (ptB t) (ptG t) _ _ _)
  blk_simp [iblk]
  refine congrArg (V m c main_v1) (funext fun a => Fin.ext ?_)
  fin_cases a <;> blk_simp <;> rw [index_1] <;> first | rfl | exact Nat.zero_add _

theorem blk_k (t : Fin cfg0.N) (d : Fin 96) (j : Fin 768) :
    iblk m c 2 t (ix4 (0 : Fin 1) (0 : Fin 1) d j) = m ((c.tc : Thread nD τ).loc main_arg2) (ix4 (ptB t) j (ptG t) d) := by
  refine Eq.trans ?_ (V_k m c (ptB t) (ptG t) _ _)
  blk_simp [iblk]
  refine congrArg (V m c main_v2) (funext fun a => Fin.ext ?_)
  fin_cases a <;> blk_simp <;> rw [index_2] <;> first | rfl | exact Nat.zero_add _

theorem blk_v (t : Fin cfg0.N) (d : Fin 96) (j : Fin 768) :
    iblk m c 3 t (ix4 (0 : Fin 1) (0 : Fin 1) d j) = m ((c.tc : Thread nD τ).loc main_arg4) (ix4 (ptB t) j (ptG t) d) := by
  refine Eq.trans ?_ (V_v m c (ptB t) (ptG t) _ _)
  blk_simp [iblk]
  refine congrArg (V m c main_v3) (funext fun a => Fin.ext ?_)
  fin_cases a <;> blk_simp <;> rw [index_3] <;> first | rfl | exact Nat.zero_add _

theorem blk_ks (t : Fin cfg0.N) (j : Fin 768) :
    iblk m c 4 t (ix4 (0 : Fin 1) (0 : Fin 1) (0 : Fin 1) j) = m ((c.tc : Thread nD τ).loc main_arg3) (ix3 (ptB t) j (ptG t)) := by
  refine Eq.trans ?_ (V_ks m c (ptB t) (ptG t) _)
  blk_simp [iblk]
  refine congrArg (V m c main_v7) (funext fun a => Fin.ext ?_)
  fin_cases a <;> blk_simp <;> rw [index_4] <;> first | rfl | exact Nat.zero_add _

theorem blk_vs (t : Fin cfg0.N) (j : Fin 768) :
    iblk m c 5 t (ix4 (0 : Fin 1) (0 : Fin 1) (0 : Fin 1) j) = m ((c.tc : Thread nD τ).loc main_arg5) (ix3 (ptB t) j (ptG t)) := by
  refine Eq.trans ?_ (V_vs m c (ptB t) (ptG t) _)
  blk_simp [iblk]
  refine congrArg (V m c main_v9) (funext fun a => Fin.ext ?_)
  fin_cases a <;> blk_simp <;> rw [index_5] <;> first | rfl | exact Nat.zero_add _

theorem blk_o (t : Fin cfg0.N) (r : Fin 3) (d : Fin 96) (q : Fin 768) :
    iblk m c 6 t (ix5 (0 : Fin 1) (0 : Fin 1) r d q) = m ((c.tc : Thread nD τ).loc main_arg6) (ix4 (ptB t) q (headIx (ptG t) r) d) := by
  refine Eq.trans ?_ (V_o m c (ptB t) (ptG t) _ _ _)
  blk_simp [iblk]
  refine congrArg (V m c main_v5) (funext fun a => Fin.ext ?_)
  fin_cases a <;> blk_simp <;> rw [index_6] <;> first | rfl | exact Nat.zero_add _

theorem blk_m (t : Fin cfg0.N) (r : Fin 3) (q : Fin 768) :
    iblk m c 7 t (ix4 (0 : Fin 1) (0 : Fin 1) r q) = m ((c.tc : Thread nD τ).loc main_arg7) (ix3 (ptB t) (headIx (ptG t) r) q) := by
  refine Eq.trans ?_ (V_m m c (ptB t) (ptG t) _ _)
  blk_simp [iblk]
  refine congrArg (V m c main_v10) (funext fun a => Fin.ext ?_)
  fin_cases a <;> blk_simp <;> rw [index_7] <;> first | rfl | exact Nat.zero_add _

theorem blk_l (t : Fin cfg0.N) (r : Fin 3) (q : Fin 768) :
    iblk m c 8 t (ix4 (0 : Fin 1) (0 : Fin 1) r q) = m ((c.tc : Thread nD τ).loc main_arg8) (ix3 (ptB t) (headIx (ptG t) r) q) := by
  refine Eq.trans ?_ (V_l m c (ptB t) (ptG t) _ _)
  blk_simp [iblk]
  refine congrArg (V m c main_v11) (funext fun a => Fin.ext ?_)
  fin_cases a <;> blk_simp <;> rw [index_8] <;> first | rfl | exact Nat.zero_add _

end Cert.Ring
end
-- ==== Proof.Attention.lean ====
/-
  The three results as functions of the nine arguments, entry by entry: one step of grouped-query attention with an online
  softmax, three query heads to a key/value head. Both programs are shown to compute these.
-/
module

public import proofs.«01_k».proof.Proof.Block
public import proofs.«01_k».proof.Proof.Spec

@[expose] public section

noncomputable section

namespace Cert.Ring

open Idealize.ShloMosaic Idealize.ShloMosaic.Pointwise

/-- The shapes of the queries and outputs, of the query scales, of the keys and values, of their scales, and of the
    running maxima and sums. -/
abbrev QSh : Shape := ⟨4, ![2, 768, 24, 96]⟩
abbrev QsSh : Shape := ⟨2, ![2, 24]⟩
abbrev KSh : Shape := ⟨4, ![2, 768, 8, 96]⟩
abbrev KsSh : Shape := ⟨3, ![2, 768, 8]⟩
abbrev MSh : Shape := ⟨3, ![2, 24, 768]⟩

theorem eta_ix3 {n0 n1 n2 : Nat} (j : (⟨3, ![n0, n1, n2]⟩ : Shape).Idx) : j = ix3 (j 0) (j 1) (j 2) :=
  funext fun a => by fin_cases a <;> rfl
theorem eta_ix4 {n0 n1 n2 n3 : Nat} (j : (⟨4, ![n0, n1, n2, n3]⟩ : Shape).Idx) : j = ix4 (j 0) (j 1) (j 2) (j 3) :=
  funext fun a => by fin_cases a <;> rfl

/-- The key/value head of a query head. -/
def grp (h : Fin 24) : Fin 8 := ⟨h.val / 3, by omega⟩
/-- A query head's place in its group. -/
def mem3 (h : Fin 24) : Fin 3 := ⟨h.val % 3, by omega⟩

theorem headIx_grp (h : Fin 24) : headIx (grp h) (mem3 h) = h := Fin.ext (Nat.div_add_mod _ _)
theorem grp_headIx (g : Fin 8) (r : Fin 3) : grp (headIx g r) = g := Fin.ext (by show (3 * g.val + r.val) / 3 = g.val; omega)

variable (A0 : QSh.Idx → EReal) (A1 : QsSh.Idx → EReal) (A2 : KSh.Idx → EReal) (A3 : KsSh.Idx → EReal) (A4 : KSh.Idx → EReal)
  (A5 : KsSh.Idx → EReal) (A6 : QSh.Idx → EReal) (A7 A8 : MSh.Idx → EReal) (b : Fin 2) (h : Fin 24) (q : Fin 768)

/-- The score of one query against one key: the scaled dot product, `-∞` for a later key. -/
def attScore (j : Fin 768) : EReal :=
  if j.val ≤ q.val then (∑ d : Fin 96, A2 (ix4 b j (grp h) d) * A0 (ix4 b q h d))
    * (A1 (ix2 b h) * A3 (ix3 b j (grp h)) * FloatOps.ofBits (F := Ideal) .f32 0x3DD105EC#32) else ⊥

/-- The new maximum. -/
def attMax : EReal := specMax (A7 (ix3 b h q)) (attScore A0 A1 A2 A3 b h q)
/-- The new sum. -/
def attSum : EReal := specSum (A7 (ix3 b h q)) (A8 (ix3 b h q)) (attScore A0 A1 A2 A3 b h q)
/-- The new output. -/
def attOut (d : Fin 96) : EReal := specOut (A7 (ix3 b h q)) (A6 (ix4 b q h d)) (attScore A0 A1 A2 A3 b h q)
  (fun j => A5 (ix3 b j (grp h))) (fun j => A4 (ix4 b j (grp h) d))

end Cert.Ring
end
-- ==== Proof.KernelValue.lean ====
/-
  The kernel's three results, entry by entry.
-/
module

public import proofs.«01_k».proof.Proof.Points
public import proofs.«01_k».proof.Proof.Closed
public import proofs.«01_k».proof.Proof.Inputs
public import proofs.«01_k».proof.Proof.Attention

@[expose] public section

noncomputable section

namespace Cert.Ring

open Idealize.ShloMosaic Idealize.ShloMosaic.Pointwise Idealize.ShloMosaic.TcCoe Idealize.ShloMosaic.StableHlo Idealize.ShloMosaic.Pipeline
open Cert.KernelIdeal Cert.KernelIdeal.Gen

variable (m : (ℓ : Loc nD τ sig) → Buf (Elt Ideal) ℓ) (c : Dev nD)

/-- The arguments. -/
abbrev K0 : QSh.Idx → EReal := m ((c.tc : Thread nD τ).loc main_arg0)
abbrev K1 : QsSh.Idx → EReal := m ((c.tc : Thread nD τ).loc main_arg1)
abbrev K2 : KSh.Idx → EReal := m ((c.tc : Thread nD τ).loc main_arg2)
abbrev K3 : KsSh.Idx → EReal := m ((c.tc : Thread nD τ).loc main_arg3)
abbrev K4 : KSh.Idx → EReal := m ((c.tc : Thread nD τ).loc main_arg4)
abbrev K5 : KsSh.Idx → EReal := m ((c.tc : Thread nD τ).loc main_arg5)
abbrev K6 : QSh.Idx → EReal := m ((c.tc : Thread nD τ).loc main_arg6)
abbrev K7 : MSh.Idx → EReal := m ((c.tc : Thread nD τ).loc main_arg7)
abbrev K8 : MSh.Idx → EReal := m ((c.tc : Thread nD τ).loc main_arg8)

/-- The scores of one query at a grid point. -/
theorem blkScore_at (t : Fin cfg0.N) (r : Fin 3) (q : Fin 768) :
    blkScore (grid0.coords t) (iblk m c 0 t) (iblk m c 1 t) (iblk m c 2 t) (iblk m c 4 t) r q
      = attScore (K0 m c) (K1 m c) (K2 m c) (K3 m c) (ptB t) (headIx (ptG t) r) q := by
  funext j
  unfold blkScore attScore dotKQ factor
  simp only [grp_headIx]
  refine if_congr Iff.rfl (congrArg₂ _ (Finset.sum_congr rfl fun d _ => congrArg₂ _ (blk_k m c t d j) (blk_q m c t r d q)) ?_) rfl
  exact congrArg (· * _) (congrArg₂ _ (blk_qs m c t (ptB t) (headIx (ptG t) r)) (blk_ks m c t j))

/-- The new maxima, sums and outputs of one query at a grid point. -/
theorem max_query (t : Fin cfg0.N) (r : Fin 3) (q : Fin 768) :
    newMax (grid0.coords t) (iblk m c 0 t) (iblk m c 1 t) (iblk m c 2 t) (iblk m c 4 t) (iblk m c 7 t) r.val q.val
      = attMax (K0 m c) (K1 m c) (K2 m c) (K3 m c) (K7 m c) (ptB t) (headIx (ptG t) r) q := by
  rw [newMax_eq, blkScore_at, blk_m]
  rfl

theorem sum_query (t : Fin cfg0.N) (r : Fin 3) (q : Fin 768) :
    newSum (grid0.coords t) (iblk m c 0 t) (iblk m c 1 t) (iblk m c 2 t) (iblk m c 4 t) (iblk m c 7 t) (iblk m c 8 t) r.val q.val
      = attSum (K0 m c) (K1 m c) (K2 m c) (K3 m c) (K7 m c) (K8 m c) (ptB t) (headIx (ptG t) r) q := by
  rw [newSum_eq, blkScore_at, blk_m, blk_l]
  rfl

theorem out_query (t : Fin cfg0.N) (r : Fin 3) (d : Fin 96) (q : Fin 768) :
    newOut (grid0.coords t) (iblk m c 0 t) (iblk m c 1 t) (iblk m c 2 t) (iblk m c 3 t) (iblk m c 4 t) (iblk m c 5 t) (iblk m c 6 t)
        (iblk m c 7 t) r.val d.val q.val
      = attOut (K0 m c) (K1 m c) (K2 m c) (K3 m c) (K4 m c) (K5 m c) (K6 m c) (K7 m c) (ptB t) (headIx (ptG t) r) q d := by
  rw [newOut_eq, blkScore_at, blk_m, blk_o]
  simp only [blk_vs, blk_v]
  unfold attOut
  simp only [grp_headIx]

/-- The blocks the points leave. -/
theorem max_point (t : Fin cfg0.N) (y : S1x1x3x768.Idx) :
    (outsAt0 (F := Ideal) m c t).2.1 y = attMax (K0 m c) (K1 m c) (K2 m c) (K3 m c) (K7 m c) (ptB t) (headIx (ptG t) (y 2)) (y 3) :=
  (congrFun (max_at m c t) y).trans (max_query m c t (y 2) (y 3))

theorem sum_point (t : Fin cfg0.N) (y : S1x1x3x768.Idx) :
    (outsAt0 (F := Ideal) m c t).2.2 y
      = attSum (K0 m c) (K1 m c) (K2 m c) (K3 m c) (K7 m c) (K8 m c) (ptB t) (headIx (ptG t) (y 2)) (y 3) :=
  (congrFun (sum_at m c t) y).trans (sum_query m c t (y 2) (y 3))

theorem out_point (t : Fin cfg0.N) (y : S1x1x3x96x768.Idx) :
    (outsAt0 (F := Ideal) m c t).1 y
      = attOut (K0 m c) (K1 m c) (K2 m c) (K3 m c) (K4 m c) (K5 m c) (K6 m c) (K7 m c) (ptB t) (headIx (ptG t) (y 2)) (y 4) (y 3) :=
  (congrFun (out_at m c t) y).trans (out_query m c t (y 2) (y 3) (y 4))

/-! ## Where the blocks land in the arrays -/

theorem emb_9 (t : Fin cfg0.N) (y : S1x1x3x96x768.Idx) : (win0_9.blk t).view.emb y = (ix5 (ptB t) (ptG t) (y 2) (y 3) (y 4) : S2x8x3x96x768.Idx) := by
  refine funext fun a => Fin.ext ?_
  fin_cases a <;> blk_simp <;> rw [index_9] <;> first | rfl | exact Nat.zero_add _

theorem emb_10 (t : Fin cfg0.N) (y : S1x1x3x768.Idx) : (win0_10.blk t).view.emb y = (ix4 (ptB t) (ptG t) (y 2) (y 3) : S2x8x3x768.Idx) := by
  refine funext fun a => Fin.ext ?_
  fin_cases a <;> blk_simp <;> rw [index_10] <;> first | rfl | exact Nat.zero_add _

theorem emb_11 (t : Fin cfg0.N) (y : S1x1x3x768.Idx) : (win0_11.blk t).view.emb y = (ix4 (ptB t) (ptG t) (y 2) (y 3) : S2x8x3x768.Idx) := by
  refine funext fun a => Fin.ext ?_
  fin_cases a <;> blk_simp <;> rw [index_11] <;> first | rfl | exact Nat.zero_add _

/-! ## The arrays the region leaves -/

def outFull : S2x8x3x96x768.Idx → EReal := fun j =>
  attOut (K0 m c) (K1 m c) (K2 m c) (K3 m c) (K4 m c) (K5 m c) (K6 m c) (K7 m c) (j 0) (headIx (j 1) (j 2)) (j 4) (j 3)

theorem out_array : (dats m 0 c).arrAt 9 cfg0.N = outFull m c :=
  (dats m 0 c).arrAt_eq_of_covers 9 _ (by decide +kernel) fun t hf y => by
    blk_simp
    rw [after0_9, out_point]
    exact (congrArg (outFull m c) (emb_9 t y)).symm

def maxFull : S2x8x3x768.Idx → EReal := fun j =>
  attMax (K0 m c) (K1 m c) (K2 m c) (K3 m c) (K7 m c) (j 0) (headIx (j 1) (j 2)) (j 3)

theorem max_array : (dats m 0 c).arrAt 10 cfg0.N = maxFull m c :=
  (dats m 0 c).arrAt_eq_of_covers 10 _ (by decide +kernel) fun t hf y => by
    blk_simp
    rw [after0_10, max_point]
    exact (congrArg (maxFull m c) (emb_10 t y)).symm

def sumFull : S2x8x3x768.Idx → EReal := fun j =>
  attSum (K0 m c) (K1 m c) (K2 m c) (K3 m c) (K7 m c) (K8 m c) (j 0) (headIx (j 1) (j 2)) (j 3)

theorem sum_array : (dats m 0 c).arrAt 11 cfg0.N = sumFull m c :=
  (dats m 0 c).arrAt_eq_of_covers 11 _ (by decide +kernel) fun t hf y => by
    blk_simp
    rw [after0_11, sum_point]
    exact (congrArg (sumFull m c) (emb_11 t y)).symm

/-! ## The results -/

theorem out_result (b : Fin 2) (q : Fin 768) (h : Fin 24) (d : Fin 96) :
    afterTail₀ cfgs (dats m) 0 (V0 m) [hostOps1] c main_v14 (ix4 b q h d) = attOut (K0 m c) (K1 m c) (K2 m c) (K3 m c) (K4 m c) (K5 m c) (K6 m c) (K7 m c) b h q d := by
  unfold afterTail₀
  after_reads_at
  refine (congrFun ((withArrays_arr spec0 launch0.win.arr_inj c (V0 m c) _ 9).trans (out_array m c)) _).trans ?_
  exact congrArg (fun k => attOut (K0 m c) (K1 m c) (K2 m c) (K3 m c) (K4 m c) (K5 m c) (K6 m c) (K7 m c) b k q d) (headIx_grp h)

theorem max_result (b : Fin 2) (h : Fin 24) (q : Fin 768) :
    afterTail₀ cfgs (dats m) 0 (V0 m) [hostOps1] c main_v15 (ix3 b h q) = attMax (K0 m c) (K1 m c) (K2 m c) (K3 m c) (K7 m c) b h q := by
  unfold afterTail₀
  after_reads_at
  refine (congrFun ((withArrays_arr spec0 launch0.win.arr_inj c (V0 m c) _ 10).trans (max_array m c)) _).trans ?_
  exact congrArg (fun k => attMax (K0 m c) (K1 m c) (K2 m c) (K3 m c) (K7 m c) b k q) (headIx_grp h)

theorem sum_result (b : Fin 2) (h : Fin 24) (q : Fin 768) :
    afterTail₀ cfgs (dats m) 0 (V0 m) [hostOps1] c main_v16 (ix3 b h q) = attSum (K0 m c) (K1 m c) (K2 m c) (K3 m c) (K7 m c) (K8 m c) b h q := by
  unfold afterTail₀
  after_reads_at
  refine (congrFun ((withArrays_arr spec0 launch0.win.arr_inj c (V0 m c) _ 11).trans (sum_array m c)) _).trans ?_
  exact congrArg (fun k => attSum (K0 m c) (K1 m c) (K2 m c) (K3 m c) (K7 m c) (K8 m c) b k q) (headIx_grp h)

/-- The kernel's three results as arrays. -/
def kernelOut : QSh.Idx → EReal := fun j =>
  attOut (K0 m c) (K1 m c) (K2 m c) (K3 m c) (K4 m c) (K5 m c) (K6 m c) (K7 m c) (j 0) (j 2) (j 1) (j 3)
def kernelMax : MSh.Idx → EReal := fun j => attMax (K0 m c) (K1 m c) (K2 m c) (K3 m c) (K7 m c) (j 0) (j 1) (j 2)
def kernelSum : MSh.Idx → EReal := fun j => attSum (K0 m c) (K1 m c) (K2 m c) (K3 m c) (K7 m c) (K8 m c) (j 0) (j 1) (j 2)

/-- Every run of the kernel ends with these results. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = kernelOut m c
      ∧ r.2.mem ((c.tc : Thread nD τ).loc main_v15) = kernelMax m c
      ∧ r.2.mem ((c.tc : Thread nD τ).loc main_v16) = kernelSum m c) :=
  (θ_run defs _ _).mono (fun r h c =>
    ⟨((h c).2 main_v14 (Pipeline.mem_restRefs_of main_v14 (by decide) (by decide))).trans
        (funext fun j => (congrArg _ (eta_ix4 j)).trans (out_result m c (j 0) (j 1) (j 2) (j 3))),
      ((h c).2 main_v15 (Pipeline.mem_restRefs_of main_v15 (by decide) (by decide))).trans
        (funext fun j => (congrArg _ (eta_ix3 j)).trans (max_result m c (j 0) (j 1) (j 2))),
      ((h c).2 main_v16 (Pipeline.mem_restRefs_of main_v16 (by decide) (by decide))).trans
        (funext fun j => (congrArg _ (eta_ix3 j)).trans (sum_result m c (j 0) (j 1) (j 2)))⟩) (run_main m ρ)

end Cert.Ring
end
-- ==== Proof.RefScore.lean ====
/-
  The reference's scores, entry by entry.
-/
module

public import proofs.«01_k».proof.Proof.Gen.ReferenceIdeal.Read
public import proofs.«01_k».proof.Proof.Attention

@[expose] public section

noncomputable section

namespace Cert.Ring

open Idealize.ShloMosaic Idealize.ShloMosaic.Pointwise
open Cert.ReferenceIdeal Cert.ReferenceIdeal.Gen Cert.ReferenceIdeal.Read

variable (A0 : QSh.Idx → EReal) (A1 : QsSh.Idx → EReal) (A2 : KSh.Idx → EReal) (A3 : KsSh.Idx → EReal) (A4 : KSh.Idx → EReal)
  (A5 : KsSh.Idx → EReal) (A6 : QSh.Idx → EReal) (A7 A8 : MSh.Idx → EReal) (b : Fin 2) (g : Fin 8) (r : Fin 3) (q j : Fin 768)

theorem headIx_eq' (g : Fin 8) (r : Fin 3) (h : g.val * 3 + r.val < 24) : (⟨g.val * 3 + r.val, h⟩ : Fin 24) = headIx g r :=
  Fin.ext (congrArg (· + r.val) (Nat.mul_comm _ _))

theorem ref_q (d : Fin 96) : val_main_v2 (F := Ideal) A0 (ix5 b g r q d) = A0 (ix4 b q (headIx g r) d) := by
  pointwise [val_main_v2, val_main_v1]
  simp only [headIx_eq']

theorem ref_k (d : Fin 96) : val_main_v3 (F := Ideal) A2 (ix4 b g j d) = A2 (ix4 b j g d) := by
  pointwise [val_main_v3]

theorem ref_v (d : Fin 96) : val_main_v4 (F := Ideal) A4 (ix4 b g j d) = A4 (ix4 b j g d) := by
  pointwise [val_main_v4]

theorem ref_scale : val_main_v35 (F := Ideal) A1 A3 (ix5 b g r q j)
    = A1 (ix2 b (headIx g r)) * A3 (ix3 b j g) * FloatOps.ofBits (F := Ideal) .f32 0x3DD105EC#32 := by
  pointwise [val_main_v35, val_main_v14, val_main_v13, val_main_v12, val_main_v11, val_main_v10, val_main_v9, val_main_v8, val_main_v7, val_main_v6, val_main_v5, val_main_cst]
  simp only [headIx_eq']

/-- The mask: query `q` sees key `j` when `6 j ≤ 6 q + 1`, that is when `j ≤ q`. -/
theorem cmpi_mask (q j : Fin 768) : IntOp.cmpi CmpIPredicate.sge (IntOp.addi (IntOp.muli (BitVec.ofNat 32 q.val) 6#32) 1#32)
    (IntOp.addi (IntOp.muli (BitVec.ofNat 32 j.val) 6#32) 0#32) = if j.val ≤ q.val then 1#1 else 0#1 := by
  have e1 : IntOp.addi (IntOp.muli (BitVec.ofNat 32 q.val) 6#32) 1#32 = BitVec.ofNat 32 (q.val * 6 + 1) := by
    simp only [IntOp.addi, IntOp.muli, BitVec.ofNat_add, BitVec.ofNat_mul]
  have e2 : IntOp.addi (IntOp.muli (BitVec.ofNat 32 j.val) 6#32) 0#32 = BitVec.ofNat 32 (j.val * 6) := by
    simp only [IntOp.addi, IntOp.muli, BitVec.ofNat_mul, BitVec.add_zero]
  have hi : ∀ n : Nat, n < 4610 → (BitVec.ofNat 32 n).toInt = n := fun n hn => by
    rw [BitVec.toInt_eq_toNat_of_lt] <;> rw [BitVec.toNat_ofNat, Nat.mod_eq_of_lt (by omega)]
    omega
  rw [e1, e2]
  unfold IntOp.cmpi
  simp only [BitVec.sle, hi _ (show q.val * 6 + 1 < 4610 by omega), hi _ (show j.val * 6 < 4610 by omega)]
  by_cases h : j.val ≤ q.val
  · rw [if_pos h]
    have : ((j.val * 6 : Nat) : Int) ≤ ((q.val * 6 + 1 : Nat) : Int) := by omega
    simp only [this, decide_true]
    rfl
  · rw [if_neg h]
    have : ¬((j.val * 6 : Nat) : Int) ≤ ((q.val * 6 + 1 : Nat) : Int) := by omega
    simp only [this, decide_false]
    rfl

theorem ref_mask : val_main_call0_v0 (F := Ideal) (ix5 b g r q j) = if j.val ≤ q.val then 1#1 else 0#1 := by
  pointwise [val_main_call0_v0, val_main_v34, val_main_v33, val_main_v32, val_main_v31, val_main_v30, val_main_v29, val_main_v28,
    val_main_v27, val_main_v26, val_main_v25, val_main_v24, val_main_v23, val_main_v22, val_main_v21, val_main_v20, val_main_c,
    val_main_c_0, val_main_c_1, val_main_c_2]
  rw [cmpi_mask]

theorem bits_neg_inf : Ideal.ofBits .f32 4286578688#32 = ⊥ := by simp [Ideal.ofBits, Ideal.ieee]

/-- The masked scores. -/
theorem ref_score : val_main_v37 (F := Ideal) A1 A3 A0 A2 (ix5 b g r q j) = attScore A0 A1 A2 A3 b (headIx g r) q j := by
  rw [val_main_v37_apply, ref_mask, val_main_v36_apply, ref_scale, val_main_v19_apply]
  unfold attScore
  rw [grp_headIx]
  have e : (∑ k : Fin 96, val_main_v2 (F := Ideal) A0 (lidx_main_v19 (ix5 b g r q j) k) * val_main_v3 (F := Ideal) A2 (ridx_main_v19 (ix5 b g r q j) k))
      = ∑ d : Fin 96, A2 (ix4 b j g d) * A0 (ix4 b q (headIx g r) d) := by
    refine Finset.sum_congr rfl fun d _ => ?_
    rw [show lidx_main_v19 (ix5 b g r q j) d = ix5 b g r q d from funext fun a => by fin_cases a <;> rfl,
      show ridx_main_v19 (ix5 b g r q j) d = ix4 b g j d from funext fun a => by fin_cases a <;> rfl, ref_q, ref_k, mul_comm]
  rw [e]
  pointwise [val_main_call0_v1, val_main_cst_3]
  rw [bits_neg_inf]
  split <;> rfl

end Cert.Ring
end
-- ==== Proof.RefValue.lean ====
/-
  The reference's three results, entry by entry.
-/
module

public import proofs.«01_k».proof.Proof.RefScore

@[expose] public section

noncomputable section

namespace Cert.Ring

open Idealize.ShloMosaic Idealize.ShloMosaic.Pointwise
open Cert.ReferenceIdeal Cert.ReferenceIdeal.Gen Cert.ReferenceIdeal.Read

variable (A0 : QSh.Idx → EReal) (A1 : QsSh.Idx → EReal) (A2 : KSh.Idx → EReal) (A3 : KsSh.Idx → EReal) (A4 : KSh.Idx → EReal)
  (A5 : KsSh.Idx → EReal) (A6 : QSh.Idx → EReal) (A7 A8 : MSh.Idx → EReal) (b : Fin 2) (g : Fin 8) (r : Fin 3) (q j : Fin 768)

theorem ref_m : val_main_v17 (F := Ideal) A7 (ix4 b g r q) = A7 (ix3 b (headIx g r) q) := by
  pointwise [val_main_v17]
  simp only [headIx_eq']

theorem ref_l : val_main_v18 (F := Ideal) A8 (ix4 b g r q) = A8 (ix3 b (headIx g r) q) := by
  pointwise [val_main_v18]
  simp only [headIx_eq']

theorem ref_top : val_main_v38 (F := Ideal) A1 A3 A0 A2 (ix4 b g r q) = Finset.univ.sup (attScore A0 A1 A2 A3 b (headIx g r) q) := by
  pointwise [val_main_v38, ref_score, val_main_cst_4]
  rw [bits_neg_inf]
  rfl

/-- The new maxima. -/
theorem ref_max : val_main_v39 (F := Ideal) A1 A3 A7 A0 A2 (ix4 b g r q) = attMax A0 A1 A2 A3 A7 b (headIx g r) q := by
  rw [val_main_v39_apply, ref_m, ref_top]
  rfl

theorem ref_alpha : val_main_v41 (F := Ideal) A1 A3 A7 A0 A2 (ix4 b g r q)
    = Ideal.exp (A7 (ix3 b (headIx g r) q) - attMax A0 A1 A2 A3 A7 b (headIx g r) q) := by
  rw [val_main_v41_apply, val_main_v40_apply, ref_m, ref_max]
  rfl

theorem ref_p : val_main_v45 (F := Ideal) A1 A3 A7 A0 A2 (ix5 b g r q j)
    = Ideal.exp (attScore A0 A1 A2 A3 b (headIx g r) q j - attMax A0 A1 A2 A3 A7 b (headIx g r) q) := by
  rw [val_main_v45_apply, val_main_v44_apply, ref_score, val_main_v43_apply, val_main_v42_apply]
  rw [show idx_main_v42 (idx_main_v43 (ix5 b g r q j)) = ix4 b g r q from funext fun a => by fin_cases a <;> rfl, ref_max]
  rfl

/-- The new sums. -/
theorem ref_sum : val_main_v48 (F := Ideal) A1 A3 A7 A8 A0 A2 (ix4 b g r q) = attSum A0 A1 A2 A3 A7 A8 b (headIx g r) q := by
  rw [val_main_v48_apply, val_main_v46_apply, ref_alpha, ref_l, val_main_v47_apply, val_main_cst_5_apply]
  rw [Finset.sum_congr rfl fun k _ => (congrArg _ (show idx_main_v47 (ix4 b g r q) k = ix5 b g r q k from funext fun a => by fin_cases a <;> rfl)).trans
    (ref_p A0 A1 A2 A3 A7 b g r q k)]
  show _ * _ + (Ideal.ofBits .f32 0x00000000#32 + _) = _
  rw [show Ideal.ofBits .f32 0x00000000#32 = 0 from by simp [Ideal.ofBits, Ideal.ieee], zero_add]
  rfl

theorem ref_pv (d : Fin 96) : val_main_v52 (F := Ideal) A1 A3 A5 A7 A0 A2 A4 (ix5 b g r q d)
    = ∑ j : Fin 768, Ideal.exp (attScore A0 A1 A2 A3 b (headIx g r) q j - attMax A0 A1 A2 A3 A7 b (headIx g r) q) * A5 (ix3 b j g) * A4 (ix4 b j g d) := by
  rw [val_main_v52_apply]
  refine Finset.sum_congr rfl fun k _ => ?_
  rw [show lidx_main_v52 (ix5 b g r q d) k = ix5 b g r q k from funext fun a => by fin_cases a <;> rfl,
    show ridx_main_v52 (ix5 b g r q d) k = ix4 b g k d from funext fun a => by fin_cases a <;> rfl, ref_v]
  pointwise [val_main_v51, val_main_v50, val_main_v49, val_main_v16, val_main_v15, ref_p]

/-- The new outputs. -/
theorem ref_out (d : Fin 96) : val_main_v59 (F := Ideal) A1 A3 A5 A6 A7 A0 A2 A4 (ix5 b q g r d)
    = attOut A0 A1 A2 A3 A4 A5 A6 A7 b (headIx g r) q d := by
  pointwise [val_main_v59, val_main_v58, val_main_v57, val_main_v56, val_main_v55, val_main_v54, val_main_v53, ref_alpha, ref_pv]
  simp only [headIx_eq']
  unfold attOut
  rw [grp_headIx]
  rfl

/-! ## The results -/

variable (h : Fin 24)

theorem ref_max_result : val_main_v61 (F := Ideal) A1 A3 A7 A0 A2 (ix3 b h q) = attMax A0 A1 A2 A3 A7 b h q := by
  pointwise [val_main_v61]
  exact (ref_max A0 A1 A2 A3 A7 b (grp h) (mem3 h) q).trans (by rw [headIx_grp])

theorem ref_sum_result : val_main_v62 (F := Ideal) A1 A3 A7 A8 A0 A2 (ix3 b h q) = attSum A0 A1 A2 A3 A7 A8 b h q := by
  pointwise [val_main_v62]
  exact (ref_sum A0 A1 A2 A3 A7 A8 b (grp h) (mem3 h) q).trans (by rw [headIx_grp])

theorem ref_out_result (d : Fin 96) : val_main_v60 (F := Ideal) A1 A3 A5 A6 A7 A0 A2 A4 (ix4 b q h d) = attOut A0 A1 A2 A3 A4 A5 A6 A7 b h q d := by
  pointwise [val_main_v60]
  exact (ref_out A0 A1 A2 A3 A4 A5 A6 A7 b (grp h) (mem3 h) q d).trans (by rw [headIx_grp])

end Cert.Ring
end
-- ==== Proof.RefRun.lean ====
/-
  The reference's run: its first step only changes the format of the codes, so its results are those of the host's lines on
  the arguments.
-/
module

public import proofs.«01_k».proof.Proof.RefValue
public import Idealize.ShloMosaic.Lib.Pipeline.ValueKit

@[expose] public section

noncomputable section

namespace Cert.Ring

open Idealize.ShloMosaic Idealize.ShloMosaic.Pointwise Idealize.ShloMosaic.TcCoe Idealize.ShloMosaic.StableHlo Idealize.ShloMosaic.Pipeline
open Cert.ReferenceIdeal Cert.ReferenceIdeal.Gen Cert.ReferenceIdeal.Read Cert.ReferenceIdeal.Value

variable (m : (ℓ : Loc nD τ sig) → Buf (Elt Ideal) ℓ) (c : Dev nD)

/-- The arguments. -/
abbrev R0 : QSh.Idx → EReal := m ((c.tc : Thread nD τ).loc main_arg0)
abbrev R1 : QsSh.Idx → EReal := m ((c.tc : Thread nD τ).loc main_arg1)
abbrev R2 : KSh.Idx → EReal := m ((c.tc : Thread nD τ).loc main_arg2)
abbrev R3 : KsSh.Idx → EReal := m ((c.tc : Thread nD τ).loc main_arg3)
abbrev R4 : KSh.Idx → EReal := m ((c.tc : Thread nD τ).loc main_arg4)
abbrev R5 : KsSh.Idx → EReal := m ((c.tc : Thread nD τ).loc main_arg5)
abbrev R6 : QSh.Idx → EReal := m ((c.tc : Thread nD τ).loc main_arg6)
abbrev R7 : MSh.Idx → EReal := m ((c.tc : Thread nD τ).loc main_arg7)
abbrev R8 : MSh.Idx → EReal := m ((c.tc : Thread nD τ).loc main_arg8)

/-! ## The widened codes are the codes -/

theorem out0_3_eq (x0 : Vec Ideal S2x768x24x96 .fp8e4m3) (x1 x2 : Vec Ideal S2x768x8x96 .fp8e4m3) : out0_3 (F := Ideal) x0 x1 x2 = x0 := by
  unfold out0_3
  refine (View.canon_cons_unit_lit _ _ _ (by decide)).trans ?_
  exact View.ld_unit_lit (S := S2x768x24x96) (off := ![0, 0, 0, 0]) inb_S2x768x24x96_S2x768x24x96_0_0_0_0 x0 (by decide)

theorem iblk_0 (t : Fin cfg0.N) (y : S2x768x24x96.Idx) : iblk m c 0 t y = R0 m c y := by
  blk_simp [iblk]
  refine congrArg (R0 m c) (funext fun a => Fin.ext ?_)
  fin_cases a <;> blk_simp <;> exact Nat.zero_add _

theorem emb_r3 (t : Fin cfg0.N) (y : S2x768x24x96.Idx) : (win0_3.blk t).view.emb y = (y : S2x768x24x96.Idx) := by
  refine funext fun a => Fin.ext ?_
  fin_cases a <;> blk_simp <;> exact Nat.zero_add _

theorem reg_0 : reg_main_v0_0 (F := Ideal) m c = R0 m c :=
  (dats m 0 c).arrAt_eq_of_covers 3 (R0 m c) (by decide +kernel) fun t hf y => by
    blk_simp
    rw [after0_3, out0_3_eq]
    exact (iblk_0 m c t y).trans (congrArg (R0 m c) (emb_r3 t y)).symm

theorem out0_4_eq (x0 : Vec Ideal S2x768x24x96 .fp8e4m3) (x1 x2 : Vec Ideal S2x768x8x96 .fp8e4m3) : out0_4 (F := Ideal) x0 x1 x2 = x1 := by
  unfold out0_4
  refine (View.canon_cons_unit_lit _ _ _ (by decide)).trans ?_
  exact View.ld_unit_lit (S := S2x768x8x96) (off := ![0, 0, 0, 0]) inb_S2x768x8x96_S2x768x8x96_0_0_0_0 x1 (by decide)

theorem iblk_1 (t : Fin cfg0.N) (y : S2x768x8x96.Idx) : iblk m c 1 t y = R2 m c y := by
  blk_simp [iblk]
  refine congrArg (R2 m c) (funext fun a => Fin.ext ?_)
  fin_cases a <;> blk_simp <;> exact Nat.zero_add _

theorem emb_r4 (t : Fin cfg0.N) (y : S2x768x8x96.Idx) : (win0_4.blk t).view.emb y = (y : S2x768x8x96.Idx) := by
  refine funext fun a => Fin.ext ?_
  fin_cases a <;> blk_simp <;> exact Nat.zero_add _

theorem reg_1 : reg_main_v0_1 (F := Ideal) m c = R2 m c :=
  (dats m 0 c).arrAt_eq_of_covers 4 (R2 m c) (by decide +kernel) fun t hf y => by
    blk_simp
    rw [after0_4, out0_4_eq]
    exact (iblk_1 m c t y).trans (congrArg (R2 m c) (emb_r4 t y)).symm

theorem out0_5_eq (x0 : Vec Ideal S2x768x24x96 .fp8e4m3) (x1 x2 : Vec Ideal S2x768x8x96 .fp8e4m3) : out0_5 (F := Ideal) x0 x1 x2 = x2 := by
  unfold out0_5
  refine (View.canon_cons_unit_lit _ _ _ (by decide)).trans ?_
  exact View.ld_unit_lit (S := S2x768x8x96) (off := ![0, 0, 0, 0]) inb_S2x768x8x96_S2x768x8x96_0_0_0_0 x2 (by decide)

theorem iblk_2 (t : Fin cfg0.N) (y : S2x768x8x96.Idx) : iblk m c 2 t y = R4 m c y := by
  blk_simp [iblk]
  refine congrArg (R4 m c) (funext fun a => Fin.ext ?_)
  fin_cases a <;> blk_simp <;> exact Nat.zero_add _

theorem emb_r5 (t : Fin cfg0.N) (y : S2x768x8x96.Idx) : (win0_5.blk t).view.emb y = (y : S2x768x8x96.Idx) := by
  refine funext fun a => Fin.ext ?_
  fin_cases a <;> blk_simp <;> exact Nat.zero_add _

theorem reg_2 : reg_main_v0_2 (F := Ideal) m c = R4 m c :=
  (dats m 0 c).arrAt_eq_of_covers 5 (R4 m c) (by decide +kernel) fun t hf y => by
    blk_simp
    rw [after0_5, out0_5_eq]
    exact (iblk_2 m c t y).trans (congrArg (R4 m c) (emb_r5 t y)).symm

/-! ## The results -/

def refOut : QSh.Idx → EReal := fun j =>
  attOut (R0 m c) (R1 m c) (R2 m c) (R3 m c) (R4 m c) (R5 m c) (R6 m c) (R7 m c) (j 0) (j 2) (j 1) (j 3)
def refMax : MSh.Idx → EReal := fun j => attMax (R0 m c) (R1 m c) (R2 m c) (R3 m c) (R7 m c) (j 0) (j 1) (j 2)
def refSum : MSh.Idx → EReal := fun j => attSum (R0 m c) (R1 m c) (R2 m c) (R3 m c) (R7 m c) (R8 m c) (j 0) (j 1) (j 2)

theorem fin_out : val_main_v60 (F := Ideal) (exitV m c (Proc.devRef .tc main_arg1)) (exitV m c (Proc.devRef .tc main_arg3))
    (exitV m c (Proc.devRef .tc main_arg5)) (exitV m c (Proc.devRef .tc main_arg6)) (exitV m c (Proc.devRef .tc main_arg7))
    (exitV m c (Proc.devRef .tc main_v0_0)) (exitV m c (Proc.devRef .tc main_v0_1)) (exitV m c (Proc.devRef .tc main_v0_2)) = refOut m c := by
  rw [exit_main_arg1, exit_main_arg3, exit_main_arg5, exit_main_arg6, exit_main_arg7, exit_main_v0_0, exit_main_v0_1, exit_main_v0_2,
    reg_0, reg_1, reg_2]
  exact funext fun j => (congrArg _ (eta_ix4 j)).trans (ref_out_result _ _ _ _ _ _ _ _ (j 0) (j 1) (j 2) (j 3))

theorem fin_max : val_main_v61 (F := Ideal) (exitV m c (Proc.devRef .tc main_arg1)) (exitV m c (Proc.devRef .tc main_arg3))
    (exitV m c (Proc.devRef .tc main_arg7)) (exitV m c (Proc.devRef .tc main_v0_0)) (exitV m c (Proc.devRef .tc main_v0_1)) = refMax m c := by
  rw [exit_main_arg1, exit_main_arg3, exit_main_arg7, exit_main_v0_0, exit_main_v0_1, reg_0, reg_1]
  exact funext fun j => (congrArg _ (eta_ix3 j)).trans (ref_max_result _ _ _ _ _ (j 0) (j 2) (j 1))

theorem fin_sum : val_main_v62 (F := Ideal) (exitV m c (Proc.devRef .tc main_arg1)) (exitV m c (Proc.devRef .tc main_arg3))
    (exitV m c (Proc.devRef .tc main_arg7)) (exitV m c (Proc.devRef .tc main_arg8)) (exitV m c (Proc.devRef .tc main_v0_0))
    (exitV m c (Proc.devRef .tc main_v0_1)) = refSum m c := by
  rw [exit_main_arg1, exit_main_arg3, exit_main_arg7, exit_main_arg8, exit_main_v0_0, exit_main_v0_1, reg_0, reg_1]
  exact funext fun j => (congrArg _ (eta_ix3 j)).trans (ref_sum_result _ _ _ _ _ _ (j 0) (j 2) (j 1))

end Cert.Ring
end
-- ==== Proof.Algebraic.lean ====
/-
  The kernel and the reference end with the same results.
-/
module

public import proofs.«01_k».proof.Proof.KernelValue
public import proofs.«01_k».proof.Proof.RefRun
public import proofs.«01_k».proof.Defs

@[expose] public section

noncomputable section

namespace Cert.Ring

open Idealize.ShloMosaic Idealize.ShloMosaic.TcCoe

/-- From memories with the same arguments, both runs end with the kernel's results. -/
theorem algebraic [Cert.KernelIdeal.Facts] [Cert.ReferenceIdeal.Facts] : Cert.algebraic_KernelIdeal_ReferenceIdeal := by
  intro m g m' g' _ hargs
  refine ⟨kernelOut m, kernelMax m, kernelSum m, ?_, ?_⟩
  · refine (θ_run _ _ _).mono (fun r h c => ⟨(h.1 c).1, (h.1 c).2.1, (h.1 c).2.2, h.2 c⟩)
      (θ_run_and (kernel_run m g) (Cert.KernelIdeal.Gen.unchanged m g))
  · refine (θ_run _ _ _).mono (fun r h c => ?_) (Cert.ReferenceIdeal.Value.run m' g')
    obtain ⟨h0, h1, h2, h3, h4, h5, h6, h7, h8⟩ := hargs c
    obtain ⟨r0, r1, r2, hk⟩ := h c
    refine ⟨r0.trans ?_, r1.trans ?_, r2.trans ?_, hk⟩
    · refine (Cert.ReferenceIdeal.Read.val_main_v60_eq _).trans ((fin_out m' c).trans ?_)
      unfold refOut kernelOut R0 R1 R2 R3 R4 R5 R6 R7
      rw [h0, h1, h2, h3, h4, h5, h6, h7]
    · refine (Cert.ReferenceIdeal.Read.val_main_v61_eq _).trans ((fin_max m' c).trans ?_)
      unfold refMax kernelMax R0 R1 R2 R3 R7
      rw [h0, h1, h2, h3, h7]
    · refine (Cert.ReferenceIdeal.Read.val_main_v62_eq _).trans ((fin_sum m' c).trans ?_)
      unfold refSum kernelSum R0 R1 R2 R3 R7 R8
      rw [h0, h1, h2, h3, h7, h8]

end Cert.Ring
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
    Cert.Ring.algebraic⟩

end Cert.Proof

end
